-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v1_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_v1_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_v22) = v4 c
          ∧ r.2.mem ((c.tc : Thread Cert.Reference3Ideal.nD Cert.Reference3Ideal.τ).loc Cert.Reference3Ideal.main_v29) = v5 c
          ∧ r.2.mem ((c.tc : Thread Cert.Reference3Ideal.nD Cert.Reference3Ideal.τ).loc Cert.Reference3Ideal.main_v36) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)) (v4 : (c : Dev Cert.Kernel6Ideal.nD) → Buf (Elt Ideal) ((c.tc : Thread Cert.Kernel6Ideal.nD Cert.Kernel6Ideal.τ).loc Cert.Kernel6Ideal.main_v1_4)) (v5 : (c : Dev Cert.Kernel6Ideal.nD) → Buf (Elt Ideal) ((c.tc : Thread Cert.Kernel6Ideal.nD Cert.Kernel6Ideal.τ).loc Cert.Kernel6Ideal.main_v1_5)) (v6 : (c : Dev Cert.Kernel6Ideal.nD) → Buf (Elt Ideal) ((c.tc : Thread Cert.Kernel6Ideal.nD Cert.Kernel6Ideal.τ).loc Cert.Kernel6Ideal.main_v1_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_v1_4) = v4 c
          ∧ r.2.mem ((c.tc : Thread Cert.Kernel6Ideal.nD Cert.Kernel6Ideal.τ).loc Cert.Kernel6Ideal.main_v1_5) = v5 c
          ∧ r.2.mem ((c.tc : Thread Cert.Kernel6Ideal.nD Cert.Kernel6Ideal.τ).loc Cert.Kernel6Ideal.main_v1_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_v22) = v4 c
          ∧ r.2.mem ((c.tc : Thread Cert.Reference6Ideal.nD Cert.Reference6Ideal.τ).loc Cert.Reference6Ideal.main_v29) = v5 c
          ∧ r.2.mem ((c.tc : Thread Cert.Reference6Ideal.nD Cert.Reference6Ideal.τ).loc Cert.Reference6Ideal.main_v36) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S32x32 : Shape := ⟨2, ![32, 32]⟩
abbrev S8192x2048 : Shape := ⟨2, ![8192, 2048]⟩
abbrev S1x64 : Shape := ⟨2, ![1, 64]⟩
abbrev S1x128 : Shape := ⟨2, ![1, 128]⟩
abbrev S2048x5504 : Shape := ⟨2, ![2048, 5504]⟩
abbrev S2 : Shape := ⟨1, ![2]⟩
abbrev S256 : Shape := ⟨1, ![256]⟩
abbrev S1x256x1 : Shape := ⟨3, ![1, 256, 1]⟩
abbrev S1x1x256 : Shape := ⟨3, ![1, 1, 256]⟩
abbrev S1x256x256 : Shape := ⟨3, ![1, 256, 256]⟩
abbrev S2x1x1 : Shape := ⟨3, ![2, 1, 1]⟩
abbrev S2x256x256 : Shape := ⟨3, ![2, 256, 256]⟩
abbrev S_ : Shape := ⟨0, ![]⟩
abbrev S2x256x256x1 : Shape := ⟨4, ![2, 256, 256, 1]⟩
abbrev S2x256x256x32 : Shape := ⟨4, ![2, 256, 256, 32]⟩
abbrev S32x2x256x256 : Shape := ⟨4, ![32, 2, 256, 256]⟩
abbrev S8192x1024 : Shape := ⟨2, ![8192, 1024]⟩
abbrev S2048x5632 : Shape := ⟨2, ![2048, 5632]⟩
abbrev S2048x128 : Shape := ⟨2, ![2048, 128]⟩
abbrev S1x2x256x256 : Shape := ⟨4, ![1, 2, 256, 256]⟩
abbrev S64x5504 : Shape := ⟨2, ![64, 5504]⟩
abbrev S64x5632 : Shape := ⟨2, ![64, 5632]⟩
abbrev S2x8x256x256 : Shape := ⟨4, ![2, 8, 256, 256]⟩
abbrev S2x256x2048 : Shape := ⟨3, ![2, 256, 2048]⟩
abbrev S64x128 : Shape := ⟨2, ![64, 128]⟩
abbrev S1 : Shape := ⟨1, ![1]⟩
abbrev S1x1 : Shape := ⟨2, ![1, 1]⟩
abbrev S256x256 : Shape := ⟨2, ![256, 256]⟩
abbrev S256x128 : Shape := ⟨2, ![256, 128]⟩
abbrev S512x128 : Shape := ⟨2, ![512, 128]⟩
abbrev S512x256 : Shape := ⟨2, ![512, 256]⟩
abbrev S1x1x256x256 : Shape := ⟨4, ![1, 1, 256, 256]⟩
abbrev S256x1 : Shape := ⟨2, ![256, 1]⟩
abbrev S1x256x512 : Shape := ⟨3, ![1, 256, 512]⟩
abbrev S256x512 : Shape := ⟨2, ![256, 512]⟩
abbrev S1x256x768 : Shape := ⟨3, ![1, 256, 768]⟩
abbrev S256x768 : Shape := ⟨2, ![256, 768]⟩
abbrev S768x128 : Shape := ⟨2, ![768, 128]⟩
abbrev S1x256x1024 : Shape := ⟨3, ![1, 256, 1024]⟩
abbrev S256x1024 : Shape := ⟨2, ![256, 1024]⟩
abbrev S1024x128 : Shape := ⟨2, ![1024, 128]⟩
abbrev S1x256x1280 : Shape := ⟨3, ![1, 256, 1280]⟩
abbrev S256x1280 : Shape := ⟨2, ![256, 1280]⟩
abbrev S1280x128 : Shape := ⟨2, ![1280, 128]⟩
abbrev S1x256x1536 : Shape := ⟨3, ![1, 256, 1536]⟩
abbrev S256x1536 : Shape := ⟨2, ![256, 1536]⟩
abbrev S1536x128 : Shape := ⟨2, ![1536, 128]⟩
abbrev S1x256x1792 : Shape := ⟨3, ![1, 256, 1792]⟩
abbrev S256x1792 : Shape := ⟨2, ![256, 1792]⟩
abbrev S1792x128 : Shape := ⟨2, ![1792, 128]⟩
abbrev S1x256x2048 : Shape := ⟨3, ![1, 256, 2048]⟩
abbrev S256x2048 : Shape := ⟨2, ![256, 2048]⟩

abbrev nBuf : Space → Nat
  | .hbm => 63
  | .vmem => 27
  | .smem => 1
  | _ => 0

abbrev bufTy : (tb : Table) → Fin (tcTables nBuf tb) → BufTy
  | .hbm, ⟨0, _⟩ => ⟨S32x32, .f32⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S2048x5504, .f32⟩
  | .hbm, ⟨10, _⟩ => ⟨S2048x5504, .f32⟩
  | .hbm, ⟨11, _⟩ => ⟨S2, .i32⟩
  | .hbm, ⟨12, _⟩ => ⟨S256, .i32⟩
  | .hbm, ⟨13, _⟩ => ⟨S1x256x1, .i32⟩
  | .hbm, ⟨14, _⟩ => ⟨S1x1x256, .i32⟩
  | .hbm, ⟨15, _⟩ => ⟨S1x256x256, .i32⟩
  | .hbm, ⟨16, _⟩ => ⟨S1x256x256, .i32⟩
  | .hbm, ⟨17, _⟩ => ⟨S1x256x256, .i32⟩
  | .hbm, ⟨18, _⟩ => ⟨S2x1x1, .i32⟩
  | .hbm, ⟨19, _⟩ => ⟨S2x256x256, .i32⟩
  | .hbm, ⟨20, _⟩ => ⟨S2x256x256, .i32⟩
  | .hbm, ⟨21, _⟩ => ⟨S2x256x256, .i32⟩
  | .hbm, ⟨22, _⟩ => ⟨S_, .i32⟩
  | .hbm, ⟨23, _⟩ => ⟨S2x256x256, .i32⟩
  | .hbm, ⟨24, _⟩ => ⟨S2x256x256, .i32⟩
  | .hbm, ⟨25, _⟩ => ⟨S_, .i32⟩
  | .hbm, ⟨26, _⟩ => ⟨S2x256x256, .i32⟩
  | .hbm, ⟨27, _⟩ => ⟨S2x256x256, .i32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S2x256x256, .f32⟩
  | .hbm, ⟨33, _⟩ => ⟨S_, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256x256, .f32⟩
  | .hbm, ⟨38, _⟩ => ⟨S2x256x256, .f32⟩
  | .hbm, ⟨39, _⟩ => ⟨S2x256x256, .i32⟩
  | .hbm, ⟨40, _⟩ => ⟨S_, .i32⟩
  | .hbm, ⟨41, _⟩ => ⟨S2x256x256, .i32⟩
  | .hbm, ⟨42, _⟩ => ⟨S2x256x256, .i32⟩
  | .hbm, ⟨43, _⟩ => ⟨S_, .i32⟩
  | .hbm, ⟨44, _⟩ => ⟨S2x256x256, .i32⟩
  | .hbm, ⟨45, _⟩ => ⟨S2x256x256, .i1⟩
  | .hbm, ⟨46, _⟩ => ⟨S_, .i32⟩
  | .hbm, ⟨47, _⟩ => ⟨S2x256x256, .i32⟩
  | .hbm, ⟨48, _⟩ => ⟨S2x256x256, .i32⟩
  | .hbm, ⟨49, _⟩ => ⟨S2x256x256, .i32⟩
  | .hbm, ⟨50, _⟩ => ⟨S_, .i32⟩
  | .hbm, ⟨51, _⟩ => ⟨S2x256x256, .i32⟩
  | .hbm, ⟨52, _⟩ => ⟨S2x256x256, .i1⟩
  | .hbm, ⟨53, _⟩ => ⟨S_, .i32⟩
  | .hbm, ⟨54, _⟩ => ⟨S2x256x256, .i32⟩
  | .hbm, ⟨55, _⟩ => ⟨S2x256x256, .i32⟩
  | .hbm, ⟨56, _⟩ => ⟨S2x256x256, .i32⟩
  | .hbm, ⟨57, _⟩ => ⟨S2x256x256x1, .i32⟩
  | .hbm, ⟨58, _⟩ => ⟨S2x256x256x32, .f32⟩
  | .hbm, ⟨59, _⟩ => ⟨S32x2x256x256, .f32⟩
  | .hbm, ⟨60, _⟩ => ⟨S8192x1024, .bf16⟩
  | .hbm, ⟨61, _⟩ => ⟨S2048x5632, .bf16⟩
  | .hbm, ⟨62, _⟩ => ⟨S2048x5632, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x256x256, .f32⟩
  | .local _ .vmem, ⟨7, _⟩ => ⟨S1x2x256x256, .f32⟩
  | .local _ .vmem, ⟨8, _⟩ => ⟨S1x2x256x256, .f32⟩
  | .local _ .vmem, ⟨9, _⟩ => ⟨S1x2x256x256, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S64x5504, .f32⟩
  | .local _ .vmem, ⟨16, _⟩ => ⟨S64x5504, .f32⟩
  | .local _ .vmem, ⟨17, _⟩ => ⟨S64x5504, .f32⟩
  | .local _ .vmem, ⟨18, _⟩ => ⟨S64x5504, .f32⟩
  | .local _ .vmem, ⟨19, _⟩ => ⟨S2048x128, .bf16⟩
  | .local _ .vmem, ⟨20, _⟩ => ⟨S2048x128, .bf16⟩
  | .local _ .vmem, ⟨21, _⟩ => ⟨S64x5632, .bf16⟩
  | .local _ .vmem, ⟨22, _⟩ => ⟨S64x5632, .bf16⟩
  | .local _ .vmem, ⟨23, _⟩ => ⟨S64x5632, .bf16⟩
  | .local _ .vmem, ⟨24, _⟩ => ⟨S64x5632, .bf16⟩
  | .local _ .vmem, ⟨25, _⟩ => ⟨S2x8x256x256, .f32⟩
  | .local _ .vmem, ⟨26, _⟩ => ⟨S2x256x2048, .bf16⟩
  | .local _ .smem, ⟨0, _⟩ => ⟨S32x32, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let c31 : Index := 31#32
  let arg1 : BitVec 32 := BitVec.ofNat 32 (i 1).val
  let v27 : Index := Scalar.indexCast arg1
  ![31, v27.toNat]
def k0_off2 (i : grid0.Coords) : Fin 2 → Nat :=
  let c31_22 : Index := 31#32
  let c8_i32 : BitVec 32 := 8#32
  let arg1 : BitVec 32 := BitVec.ofNat 32 (i 1).val
  let v11 : BitVec 32 := Scalar.addi c8_i32 arg1
  let v29 : Index := Scalar.indexCast v11
  ![31, v29.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x5504 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x5504 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S32x32 : Shape := ⟨2, ![32, 32]⟩
abbrev S8192x2048 : Shape := ⟨2, ![8192, 2048]⟩
abbrev S1x64 : Shape := ⟨2, ![1, 64]⟩
abbrev S1x128 : Shape := ⟨2, ![1, 128]⟩
abbrev S2048x5504 : Shape := ⟨2, ![2048, 5504]⟩
abbrev S_ : Shape := ⟨0, ![]⟩
abbrev S4x2048x2048 : Shape := ⟨3, ![4, 2048, 2048]⟩
abbrev S4x2048x1024 : Shape := ⟨3, ![4, 2048, 1024]⟩
abbrev S4x2048x8x128 : Shape := ⟨4, ![4, 2048, 8, 128]⟩
abbrev S2048 : Shape := ⟨1, ![2048]⟩
abbrev S4x2048x8x64 : Shape := ⟨4, ![4, 2048, 8, 64]⟩
abbrev S4x8x2048x2048 : Shape := ⟨4, ![4, 8, 2048, 2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x32 : Shape := ⟨3, ![2048, 2048, 32]⟩
abbrev S32x2048x2048 : Shape := ⟨3, ![32, 2048, 2048]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩
abbrev S2048x5632 : Shape := ⟨2, ![2048, 5632]⟩

abbrev nBuf : Space → Nat
  | .hbm => 168
  | .vmem => 0
  | .smem => 0
  | _ => 0

abbrev hbmTy0_0 (i : Nat) : BufTy := match i % 128 with
  | 0 => ⟨S32x32, .f32⟩
  | 1 => ⟨S8192x2048, .bf16⟩
  | 2 => ⟨S8192x2048, .bf16⟩
  | 3 => ⟨S8192x2048, .bf16⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S2048x5504, .f32⟩
  | 10 => ⟨S2048x5504, .f32⟩
  | 11 => ⟨S1x64, .f32⟩
  | 12 => ⟨S_, .f32⟩
  | 13 => ⟨S_, .f32⟩
  | 14 => ⟨S_, .f32⟩
  | 15 => ⟨S1x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S8192x2048, .f32⟩
  | 23 => ⟨S4x2048x2048, .f32⟩
  | 24 => ⟨S4x2048x1024, .f32⟩
  | 25 => ⟨S4x2048x8x128, .f32⟩
  | 26 => ⟨S8192x2048, .f32⟩
  | 27 => ⟨S4x2048x2048, .f32⟩
  | 28 => ⟨S4x2048x1024, .f32⟩
  | 29 => ⟨S4x2048x8x128, .f32⟩
  | 30 => ⟨S8192x2048, .f32⟩
  | 31 => ⟨S4x2048x2048, .f32⟩
  | 32 => ⟨S4x2048x1024, .f32⟩
  | 33 => ⟨S4x2048x8x128, .f32⟩
  | 34 => ⟨S2048, .i32⟩
  | 35 => ⟨S4x2048x8x64, .f32⟩
  | 36 => ⟨S4x2048x8x64, .f32⟩
  | 37 => ⟨S4x8x2048x2048, .f32⟩
  | 38 => ⟨S4x2048x8x64, .f32⟩
  | 39 => ⟨S4x2048x8x64, .f32⟩
  | 40 => ⟨S4x8x2048x2048, .f32⟩
  | 41 => ⟨S2048x1, .i32⟩
  | 42 => ⟨S1x2048, .i32⟩
  | 43 => ⟨S2048x2048, .i32⟩
  | 44 => ⟨S2048x2048, .i32⟩
  | 45 => ⟨S2048x2048, .i32⟩
  | 46 => ⟨S_, .i32⟩
  | 47 => ⟨S2048x2048, .i32⟩
  | 48 => ⟨S2048x2048, .i32⟩
  | 49 => ⟨S_, .i32⟩
  | 50 => ⟨S2048x2048, .i32⟩
  | 51 => ⟨S2048x2048, .i32⟩
  | 52 => ⟨S2048x2048, .f32⟩
  | 53 => ⟨S_, .f32⟩
  | 54 => ⟨S2048x2048, .f32⟩
  | 55 => ⟨S2048x2048, .f32⟩
  | 56 => ⟨S2048x2048, .f32⟩
  | 57 => ⟨S_, .f32⟩
  | 58 => ⟨S2048x2048, .f32⟩
  | 59 => ⟨S2048x2048, .f32⟩
  | 60 => ⟨S_, .f32⟩
  | 61 => ⟨S2048x2048, .f32⟩
  | 62 => ⟨S2048x2048, .f32⟩
  | 63 => ⟨S2048x2048, .i32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i1⟩
  | 70 => ⟨S_, .i32⟩
  | 71 => ⟨S2048x2048, .i32⟩
  | 72 => ⟨S2048x2048, .i32⟩
  | 73 => ⟨S2048x2048, .i32⟩
  | 74 => ⟨S_, .i32⟩
  | 75 => ⟨S2048x2048, .i32⟩
  | 76 => ⟨S2048x2048, .i1⟩
  | 77 => ⟨S_, .i32⟩
  | 78 => ⟨S2048x2048, .i32⟩
  | 79 => ⟨S2048x2048, .i32⟩
  | 80 => ⟨S2048x2048, .i32⟩
  | 81 => ⟨S2048x2048x1, .i32⟩
  | 82 => ⟨S2048x2048x32, .f32⟩
  | 83 => ⟨S32x2048x2048, .f32⟩
  | 84 => ⟨S_, .i32⟩
  | 85 => ⟨S2048x2048, .i32⟩
  | 86 => ⟨S2048x2048, .i1⟩
  | 87 => ⟨S1x2048x2048, .i1⟩
  | 88 => ⟨S8x2048x2048, .f32⟩
  | 89 => ⟨S1x8x2048x2048, .f32⟩
  | 90 => ⟨S4x8x2048x2048, .f32⟩
  | 91 => ⟨S4x8x2048x2048, .f32⟩
  | 92 => ⟨S_, .f32⟩
  | 93 => ⟨S_, .f32⟩
  | 94 => ⟨S4x8x2048x2048, .i1⟩
  | 95 => ⟨S4x8x2048x2048, .f32⟩
  | 96 => ⟨S4x8x2048x2048, .f32⟩
  | 97 => ⟨S_, .f32⟩
  | 98 => ⟨S4x8x2048, .f32⟩
  | 99 => ⟨S_, .f32⟩
  | 100 => ⟨S4x8x2048, .f32⟩
  | 101 => ⟨S4x8x2048, .f32⟩
  | 102 => ⟨S4x8x2048x1, .f32⟩
  | 103 => ⟨S4x8x2048x2048, .f32⟩
  | 104 => ⟨S4x8x2048x2048, .f32⟩
  | 105 => ⟨S4x8x2048x2048, .f32⟩
  | 106 => ⟨S_, .f32⟩
  | 107 => ⟨S4x8x2048, .f32⟩
  | 108 => ⟨S4x8x2048x1, .f32⟩
  | 109 => ⟨S4x8x2048x2048, .f32⟩
  | 110 => ⟨S4x8x2048x2048, .f32⟩
  | 111 => ⟨S8x2048x2048, .f32⟩
  | 112 => ⟨S1x8x2048x2048, .f32⟩
  | 113 => ⟨S4x8x2048x2048, .f32⟩
  | 114 => ⟨S4x8x2048x2048, .f32⟩
  | 115 => ⟨S_, .f32⟩
  | 116 => ⟨S_, .f32⟩
  | 117 => ⟨S4x8x2048x2048, .i1⟩
  | 118 => ⟨S4x8x2048x2048, .f32⟩
  | 119 => ⟨S4x8x2048x2048, .f32⟩
  | 120 => ⟨S_, .f32⟩
  | 121 => ⟨S4x8x2048, .f32⟩
  | 122 => ⟨S_, .f32⟩
  | 123 => ⟨S4x8x2048, .f32⟩
  | 124 => ⟨S4x8x2048, .f32⟩
  | 125 => ⟨S4x8x2048x1, .f32⟩
  | 126 => ⟨S4x8x2048x2048, .f32⟩
  | 127 => ⟨S4x8x2048x2048, .f32⟩
  | _ => ⟨S32x32, .f32⟩

abbrev hbmTy0_1 (i : Nat) : BufTy := match i % 128 with
  | 0 => ⟨S4x8x2048x2048, .f32⟩
  | 1 => ⟨S_, .f32⟩
  | 2 => ⟨S4x8x2048, .f32⟩
  | 3 => ⟨S4x8x2048x1, .f32⟩
  | 4 => ⟨S4x8x2048x2048, .f32⟩
  | 5 => ⟨S4x8x2048x2048, .f32⟩
  | 6 => ⟨S4x8x2048x2048, .f32⟩
  | 7 => ⟨S4x8x2048x2048, .f32⟩
  | 8 => ⟨S4x8x2048x2048, .f32⟩
  | 9 => ⟨S4x8x128x2048, .f32⟩
  | 10 => ⟨S4x2048x8x128, .f32⟩
  | 11 => ⟨S4x2048x8x128, .f32⟩
  | 12 => ⟨S_, .f32⟩
  | 13 => ⟨S4x2048x8, .f32⟩
  | 14 => ⟨S4x2048x8x1, .f32⟩
  | 15 => ⟨S_, .f32⟩
  | 16 => ⟨S4x2048x8x1, .f32⟩
  | 17 => ⟨S4x2048x8x1, .f32⟩
  | 18 => ⟨S_, .f32⟩
  | 19 => ⟨S4x2048x8x1, .f32⟩
  | 20 => ⟨S4x2048x8x1, .f32⟩
  | 21 => ⟨S4x2048x8x1, .f32⟩
  | 22 => ⟨S4x2048x8x128, .f32⟩
  | 23 => ⟨S4x2048x8x128, .f32⟩
  | 24 => ⟨S1x1x1x128, .f32⟩
  | 25 => ⟨S4x2048x8x128, .f32⟩
  | 26 => ⟨S4x2048x8x128, .f32⟩
  | 27 => ⟨S_, .f32⟩
  | 28 => ⟨S4x2048x8x128, .f32⟩
  | 29 => ⟨S4x2048x8x128, .f32⟩
  | 30 => ⟨S8192x1024, .f32⟩
  | 31 => ⟨S8192x1024, .bf16⟩
  | 32 => ⟨S_, .i32⟩
  | 33 => ⟨S_, .f32⟩
  | 34 => ⟨S2048x5632, .f32⟩
  | 35 => ⟨S2048x5632, .bf16⟩
  | 36 => ⟨S_, .i32⟩
  | 37 => ⟨S_, .f32⟩
  | 38 => ⟨S2048x5632, .f32⟩
  | 39 => ⟨S2048x5632, .bf16⟩
  | _ => ⟨S32x32, .f32⟩

abbrev hbmTy (i : Nat) : BufTy := match i / 128 with
  | 0 => hbmTy0_0 i
  | 1 => hbmTy0_1 i
  | _ => ⟨S32x32, .f32⟩

abbrev bufTy : (tb : Table) → Fin (tcTables nBuf tb) → BufTy
  | .hbm, ⟨i, _⟩ => hbmTy i
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_v33 : Ref sig .tc := ⟨.hbm, 48, rfl⟩
abbrev main_c_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_cst_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_v102 : Ref sig .tc := ⟨.hbm, 142, rfl⟩
abbrev main_cst_21 : Ref sig .tc := ⟨.hbm, 143, rfl⟩
abbrev main_v103 : Ref sig .tc := ⟨.hbm, 144, rfl⟩
abbrev main_v104 : Ref sig .tc := ⟨.hbm, 145, rfl⟩
abbrev main_cst_22 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_23 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_24 : Ref sig .tc := ⟨.hbm, 160, rfl⟩
abbrev main_call3_v0 : Ref sig .tc := ⟨.hbm, 161, rfl⟩
abbrev main_v117 : Ref sig .tc := ⟨.hbm, 162, rfl⟩
abbrev main_v118 : Ref sig .tc := ⟨.hbm, 163, rfl⟩
abbrev main_c_25 : Ref sig .tc := ⟨.hbm, 164, rfl⟩
abbrev main_call4_v0 : Ref sig .tc := ⟨.hbm, 165, rfl⟩
abbrev main_v119 : Ref sig .tc := ⟨.hbm, 166, rfl⟩
abbrev main_v120 : Ref sig .tc := ⟨.hbm, 167, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 19
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S2048x5632, .bf16⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S2048x5632, .bf16⟩
  | .hbm, ⟨14, _⟩ => ⟨S_, .i32⟩
  | .hbm, ⟨15, _⟩ => ⟨S_, .f32⟩
  | .hbm, ⟨16, _⟩ => ⟨S5632x2048, .f32⟩
  | .hbm, ⟨17, _⟩ => ⟨S5632x2048, .bf16⟩
  | .hbm, ⟨18, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 19
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S2048x5632, .bf16⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S2048x5632, .bf16⟩
  | .hbm, ⟨14, _⟩ => ⟨S_, .i32⟩
  | .hbm, ⟨15, _⟩ => ⟨S_, .f32⟩
  | .hbm, ⟨16, _⟩ => ⟨S5632x2048, .f32⟩
  | .hbm, ⟨17, _⟩ => ⟨S5632x2048, .bf16⟩
  | .hbm, ⟨18, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x5504, .f32⟩
  | .hbm, ⟨22, _⟩ => ⟨S8192x5504, .f32⟩
  | .hbm, ⟨23, _⟩ => ⟨S8192x5504, .f32⟩
  | .hbm, ⟨24, _⟩ => ⟨S_, .f32⟩
  | .hbm, ⟨25, _⟩ => ⟨S8192x5504, .f32⟩
  | .hbm, ⟨26, _⟩ => ⟨S8192x5504, .f32⟩
  | .hbm, ⟨27, _⟩ => ⟨S_, .f32⟩
  | .hbm, ⟨28, _⟩ => ⟨S8192x5504, .f32⟩
  | .hbm, ⟨29, _⟩ => ⟨S8192x5504, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x10240 : Shape := ⟨2, ![2048, 10240]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x10240, .f32⟩
  | .hbm, ⟨3, _⟩ => ⟨S2048x10240, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel3Ideal.lean ====
abbrev S8192x2048 : Shape := ⟨2, ![8192, 2048]⟩
abbrev S1x2048 : Shape := ⟨2, ![1, 2048]⟩
abbrev S2048x10240 : Shape := ⟨2, ![2048, 10240]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x10240, .f32⟩
  | .hbm, ⟨3, _⟩ => ⟨S2048x10240, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8192x2048 : Shape := ⟨2, ![8192, 2048]⟩
abbrev S1x2048 : Shape := ⟨2, ![1, 2048]⟩
abbrev S2048x10240 : Shape := ⟨2, ![2048, 10240]⟩
abbrev S_ : Shape := ⟨0, ![]⟩
abbrev S8192 : Shape := ⟨1, ![8192]⟩
abbrev S8192x1 : Shape := ⟨2, ![8192, 1]⟩
abbrev S8192x10240 : Shape := ⟨2, ![8192, 10240]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x10240, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x10240, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .bf16⟩
  | .hbm, ⟨28, _⟩ => ⟨S8192x2048, .bf16⟩
  | .hbm, ⟨29, _⟩ => ⟨S8192x2048, .bf16⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .bf16⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel4.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S1024x2048, .f32⟩
  | .hbm, ⟨13, _⟩ => ⟨S1024x2048, .f32⟩
  | .hbm, ⟨14, _⟩ => ⟨S2048x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 18
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S_, .i32⟩
  | .hbm, ⟨6, _⟩ => ⟨S_, .f32⟩
  | .hbm, ⟨7, _⟩ => ⟨S2048x5632, .f32⟩
  | .hbm, ⟨8, _⟩ => ⟨S2048x5632, .bf16⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x5632, .bf16⟩
  | .hbm, ⟨13, _⟩ => ⟨S_, .i32⟩
  | .hbm, ⟨14, _⟩ => ⟨S_, .f32⟩
  | .hbm, ⟨15, _⟩ => ⟨S5632x2048, .f32⟩
  | .hbm, ⟨16, _⟩ => ⟨S5632x2048, .bf16⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel5Ideal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 18
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S_, .i32⟩
  | .hbm, ⟨6, _⟩ => ⟨S_, .f32⟩
  | .hbm, ⟨7, _⟩ => ⟨S2048x5632, .f32⟩
  | .hbm, ⟨8, _⟩ => ⟨S2048x5632, .bf16⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x5632, .bf16⟩
  | .hbm, ⟨13, _⟩ => ⟨S_, .i32⟩
  | .hbm, ⟨14, _⟩ => ⟨S_, .f32⟩
  | .hbm, ⟨15, _⟩ => ⟨S5632x2048, .f32⟩
  | .hbm, ⟨16, _⟩ => ⟨S5632x2048, .bf16⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x5504, .f32⟩
  | .hbm, ⟨21, _⟩ => ⟨S8192x5504, .f32⟩
  | .hbm, ⟨22, _⟩ => ⟨S8192x5504, .f32⟩
  | .hbm, ⟨23, _⟩ => ⟨S_, .f32⟩
  | .hbm, ⟨24, _⟩ => ⟨S8192x5504, .f32⟩
  | .hbm, ⟨25, _⟩ => ⟨S8192x5504, .f32⟩
  | .hbm, ⟨26, _⟩ => ⟨S_, .f32⟩
  | .hbm, ⟨27, _⟩ => ⟨S8192x5504, .f32⟩
  | .hbm, ⟨28, _⟩ => ⟨S8192x5504, .f32⟩
  | .hbm, ⟨29, _⟩ => ⟨S8192x5504, .f32⟩
  | .hbm, ⟨30, _⟩ => ⟨S8192x5504, .f32⟩
  | .hbm, ⟨31, _⟩ => ⟨S8192x5504, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel6.lean ====
abbrev S256x2048 : Shape := ⟨2, ![256, 2048]⟩
abbrev S1x2048 : Shape := ⟨2, ![1, 2048]⟩
abbrev S2048x10240 : Shape := ⟨2, ![2048, 10240]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 11
  | .vmem => 27
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x10240, .f32⟩
  | .hbm, ⟨3, _⟩ => ⟨S2048x10240, .bf16⟩
  | .hbm, ⟨4, _⟩ => ⟨S256x2048, .bf16⟩
  | .hbm, ⟨5, _⟩ => ⟨S256x2048, .f32⟩
  | .hbm, ⟨6, _⟩ => ⟨S256x2048, .f32⟩
  | .hbm, ⟨7, _⟩ => ⟨S256x2048, .bf16⟩
  | .hbm, ⟨8, _⟩ => ⟨S256x2048, .bf16⟩
  | .hbm, ⟨9, _⟩ => ⟨S256x2048, .bf16⟩
  | .hbm, ⟨10, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S256x2048 : Shape := ⟨2, ![256, 2048]⟩
abbrev S1x2048 : Shape := ⟨2, ![1, 2048]⟩
abbrev S2048x10240 : Shape := ⟨2, ![2048, 10240]⟩
abbrev S_ : Shape := ⟨0, ![]⟩
abbrev S256 : Shape := ⟨1, ![256]⟩
abbrev S256x1 : Shape := ⟨2, ![256, 1]⟩
abbrev S256x10240 : Shape := ⟨2, ![256, 10240]⟩

abbrev nBuf : Space → Nat
  | .hbm => 48
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x10240, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x10240, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .bf16⟩
  | .hbm, ⟨28, _⟩ => ⟨S256x2048, .bf16⟩
  | .hbm, ⟨29, _⟩ => ⟨S256x2048, .bf16⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .bf16⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel7.lean ====
abbrev S256x2048 : Shape := ⟨2, ![256, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S256 : Shape := ⟨1, ![256]⟩
abbrev S256x1 : Shape := ⟨2, ![256, 1]⟩
abbrev S256x512 : Shape := ⟨2, ![256, 512]⟩

abbrev nBuf : Space → Nat
  | .hbm => 19
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S2048x5632, .bf16⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S2048x5632, .bf16⟩
  | .hbm, ⟨14, _⟩ => ⟨S_, .i32⟩
  | .hbm, ⟨15, _⟩ => ⟨S_, .f32⟩
  | .hbm, ⟨16, _⟩ => ⟨S5632x2048, .f32⟩
  | .hbm, ⟨17, _⟩ => ⟨S5632x2048, .bf16⟩
  | .hbm, ⟨18, _⟩ => ⟨S256x2048, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference7Ideal.lean ====
abbrev S256x2048 : Shape := ⟨2, ![256, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S256 : Shape := ⟨1, ![256]⟩
abbrev S256x1 : Shape := ⟨2, ![256, 1]⟩
abbrev S256x5504 : Shape := ⟨2, ![256, 5504]⟩

abbrev nBuf : Space → Nat
  | .hbm => 53
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x5504, .f32⟩
  | .hbm, ⟨22, _⟩ => ⟨S256x5504, .f32⟩
  | .hbm, ⟨23, _⟩ => ⟨S256x5504, .f32⟩
  | .hbm, ⟨24, _⟩ => ⟨S_, .f32⟩
  | .hbm, ⟨25, _⟩ => ⟨S256x5504, .f32⟩
  | .hbm, ⟨26, _⟩ => ⟨S256x5504, .f32⟩
  | .hbm, ⟨27, _⟩ => ⟨S_, .f32⟩
  | .hbm, ⟨28, _⟩ => ⟨S256x5504, .f32⟩
  | .hbm, ⟨29, _⟩ => ⟨S256x5504, .f32⟩
  | .hbm, ⟨30, _⟩ => ⟨S256x5504, .f32⟩
  | .hbm, ⟨31, _⟩ => ⟨S256x5504, .f32⟩
  | .hbm, ⟨32, _⟩ => ⟨S256x5504, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel8.lean ====
abbrev S256x2048 : Shape := ⟨2, ![256, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S256 : Shape := ⟨1, ![256]⟩
abbrev S256x1 : Shape := ⟨2, ![256, 1]⟩
abbrev S256x512 : Shape := ⟨2, ![256, 512]⟩

abbrev nBuf : Space → Nat
  | .hbm => 18
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S_, .i32⟩
  | .hbm, ⟨6, _⟩ => ⟨S_, .f32⟩
  | .hbm, ⟨7, _⟩ => ⟨S2048x5632, .f32⟩
  | .hbm, ⟨8, _⟩ => ⟨S2048x5632, .bf16⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x5632, .bf16⟩
  | .hbm, ⟨13, _⟩ => ⟨S_, .i32⟩
  | .hbm, ⟨14, _⟩ => ⟨S_, .f32⟩
  | .hbm, ⟨15, _⟩ => ⟨S5632x2048, .f32⟩
  | .hbm, ⟨16, _⟩ => ⟨S5632x2048, .bf16⟩
  | .hbm, ⟨17, _⟩ => ⟨S256x2048, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference8Ideal.lean ====
abbrev S256x2048 : Shape := ⟨2, ![256, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S256 : Shape := ⟨1, ![256]⟩
abbrev S256x1 : Shape := ⟨2, ![256, 1]⟩
abbrev S256x5504 : Shape := ⟨2, ![256, 5504]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x5504, .f32⟩
  | .hbm, ⟨21, _⟩ => ⟨S256x5504, .f32⟩
  | .hbm, ⟨22, _⟩ => ⟨S256x5504, .f32⟩
  | .hbm, ⟨23, _⟩ => ⟨S_, .f32⟩
  | .hbm, ⟨24, _⟩ => ⟨S256x5504, .f32⟩
  | .hbm, ⟨25, _⟩ => ⟨S256x5504, .f32⟩
  | .hbm, ⟨26, _⟩ => ⟨S_, .f32⟩
  | .hbm, ⟨27, _⟩ => ⟨S256x5504, .f32⟩
  | .hbm, ⟨28, _⟩ => ⟨S256x5504, .f32⟩
  | .hbm, ⟨29, _⟩ => ⟨S256x5504, .f32⟩
  | .hbm, ⟨30, _⟩ => ⟨S256x5504, .f32⟩
  | .hbm, ⟨31, _⟩ => ⟨S256x5504, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel9.lean ====
abbrev S256x1024 : Shape := ⟨2, ![256, 1024]⟩
abbrev S256x2048 : Shape := ⟨2, ![256, 2048]⟩
abbrev S1024x2048 : Shape := ⟨2, ![1024, 2048]⟩
abbrev S2048x2048 : Shape := ⟨2, ![2048, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S256x2048, .bf16⟩
  | .hbm, ⟨3, _⟩ => ⟨S256x2048, .bf16⟩
  | .hbm, ⟨4, _⟩ => ⟨S256x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S256x2048, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S256x2048, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S256x1024 : Shape := ⟨2, ![256, 1024]⟩
abbrev S256x2048 : Shape := ⟨2, ![256, 2048]⟩
abbrev S1024x2048 : Shape := ⟨2, ![1024, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S256x2048, .bf16⟩
  | .hbm, ⟨3, _⟩ => ⟨S256x2048, .bf16⟩
  | .hbm, ⟨4, _⟩ => ⟨S256x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S256x1024, .f32⟩
  | .hbm, ⟨9, _⟩ => ⟨S256x1024, .f32⟩
  | .hbm, ⟨10, _⟩ => ⟨S256x2048, .f32⟩
  | .hbm, ⟨11, _⟩ => ⟨S256x2048, .f32⟩
  | .hbm, ⟨12, _⟩ => ⟨S1024x2048, .f32⟩
  | .hbm, ⟨13, _⟩ => ⟨S1024x2048, .f32⟩
  | .hbm, ⟨14, _⟩ => ⟨S2048x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Ffn.lean ====
/-
  The feed-forward half-step: 16 row tiles by 11 column tiles of the hidden axis. A row tile's first point normalises its rows into
  a scratch that the other ten read; each point adds to the output block the products of its 512 hidden columns, and the last
  normalises `x + 1/2 sum` once more. The hidden axis is padded from 5504 to 5632 by zeros, whose products add nothing, so the sum
  over the tiles is the reference's contraction.
-/
module

public import proofs.«01_k».proof.Proof.Gen.Kernel2Ideal.Frame
public import proofs.«01_k».proof.Proof.Gen.Reference2Ideal
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference's arrays -/

namespace Cert.Ffn

section Arrays

open Cert.Reference2Ideal Cert.Reference2Ideal.Gen

/-- The normalised rows: `x * rsqrt (mean (x * x) + eps) * g`. -/
def normed (X : FVec Ideal S8192x2048 .f32) (G : FVec Ideal S1x2048 .f32) : FVec Ideal S8192x2048 .f32 :=
  mulf (mulf X (broadcastInDim S8192x2048 ![0, 1] bcast_S8192x1_S8192x2048_0_1 (Host.rsqrt (addf (Host.divf
    (broadcastInDim S8192x1 ![0] bcast_S8192_S8192x1_0 (Host.reduceAdd (mulf X X) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 G)

/-- The hidden rows: `silu (n @ w_gate) * (n @ w_up)` of the normalised rows `n`. -/
def hidden (N : FVec Ideal S8192x2048 .f32) (Wg Wu : FVec Ideal S2048x5504 .f32) : FVec Ideal S8192x5504 .f32 :=
  mulf (mulf (Host.dotGeneral dot_S8192x2048_S2048x5504_S8192x5504_1_0_0_1_n_n none N Wg)
    (Host.divf (broadcastInDim S8192x5504 ![] bcast_S_S8192x5504 (constant S_ .f32 0x3F800000#32))
      (addf (broadcastInDim S8192x5504 ![] bcast_S_S8192x5504 (constant S_ .f32 0x3F800000#32))
        (Host.exp (Host.negf (Host.dotGeneral dot_S8192x2048_S2048x5504_S8192x5504_1_0_0_1_n_n none N Wg))))))
    (Host.dotGeneral dot_S8192x2048_S2048x5504_S8192x5504_1_0_0_1_n_n none N Wu)

/-- The half-step: `x + 1/2 (hidden @ w_down)`. -/
def stepped (X : FVec Ideal S8192x2048 .f32) (H : FVec Ideal S8192x5504 .f32) (Wd : FVec Ideal S5504x2048 .f32) : FVec Ideal S8192x2048 .f32 :=
  addf X (mulf (broadcastInDim S8192x2048 ![] bcast_S_S8192x2048 (constant S_ .f32 0x3F000000#32))
    (Host.dotGeneral dot_S8192x5504_S5504x2048_S8192x2048_1_0_0_1_n_n none H Wd))

theorem normed_at (X : FVec Ideal S8192x2048 .f32) (G : FVec Ideal S1x2048 .f32) (r : Fin 8192) (k : Fin 2048) :
    normed X G (ix2 r k)
      = X (ix2 r k) * Ideal.rsqrt (Ideal.div (∑ x : Fin 2048, X (ix2 r x) * X (ix2 r x)) (Ideal.ofBits .f32 1157627904#32)
          + Ideal.ofBits .f32 897988541#32) * G (ix2 0 k) := by
  pointwise [normed]

theorem hidden_at (N : FVec Ideal S8192x2048 .f32) (Wg Wu : FVec Ideal S2048x5504 .f32) (r : Fin 8192) (k : Fin 5504) :
    hidden N Wg Wu (ix2 r k)
      = (∑ x : Fin 2048, N (ix2 r x) * Wg (ix2 x k)) * Ideal.logistic (∑ x : Fin 2048, N (ix2 r x) * Wg (ix2 x k))
          * ∑ x : Fin 2048, N (ix2 r x) * Wu (ix2 x k) := by
  pointwise [hidden]
  rfl

theorem stepped_at (X : FVec Ideal S8192x2048 .f32) (H : FVec Ideal S8192x5504 .f32) (Wd : FVec Ideal S5504x2048 .f32)
    (r : Fin 8192) (k : Fin 2048) :
    stepped X H Wd (ix2 r k)
      = X (ix2 r k) + Ideal.ofBits .f32 1056964608#32 * ∑ l : Fin 5504, H (ix2 r l) * Wd (ix2 l k) := by
  pointwise [stepped]

end Arrays

/-! ## The kernel's points -/

open Cert.Kernel2Ideal Cert.Kernel2Ideal.Gen

theorem zero_at (r : Fin 512) (k : Fin 2048) : k0_pay2 (F := Ideal) (ix2 r k) = 0 := by
  pointwise [k0_pay2]

/-- One column tile adds to a row the products of its 512 hidden columns with its 512 rows of the down projection. -/
theorem tile_at (h : FVec Ideal S512x2048 .bf16) (wg wu : FVec Ideal S2048x512 .bf16) (acc : FVec Ideal S512x2048 .f32)
    (wd : FVec Ideal S512x2048 .bf16) (r : Fin 512) (k : Fin 2048) :
    k0_pay3 (F := Ideal) h wg wu acc wd (ix2 r k)
      = acc (ix2 r k) + ∑ x : Fin 512, ((∑ j : Fin 2048, h (ix2 r j) * wg (ix2 j x))
          * Ideal.logistic (∑ j : Fin 2048, h (ix2 r j) * wg (ix2 j x)) * ∑ j : Fin 2048, h (ix2 r j) * wu (ix2 j x)) * wd (ix2 x k) := by
  pointwise [k0_pay3]

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] :=
  (by decide +kernel : ∀ t : Fin grid0.N, _)

/-- The arguments, at their shapes. -/
abbrev rows (c : Dev nD) : FVec Ideal S8192x2048 .f32 := m ((c : Thread nD τ).loc main_arg0)
abbrev gain (c : Dev nD) : FVec Ideal S1x2048 .f32 := m ((c : Thread nD τ).loc main_arg1)
abbrev gate (c : Dev nD) : FVec Ideal S2048x5504 .f32 := m ((c : Thread nD τ).loc main_arg2)
abbrev up (c : Dev nD) : FVec Ideal S2048x5504 .f32 := m ((c : Thread nD τ).loc main_arg3)
abbrev down (c : Dev nD) : FVec Ideal S5504x2048 .f32 := m ((c : Thread nD τ).loc main_arg4)
abbrev gain' (c : Dev nD) : FVec Ideal S1x2048 .f32 := m ((c : Thread nD τ).loc main_arg5)

/-- The integer zero the weights are padded with, as a float. -/
theorem padding : (FloatOps.sitofp .f32 (0#32) : Ideal .f32) = 0 := by
  show (((0#32 : BitVec 32).toInt : ℝ) : EReal) = 0
  simp

/-- The gate's weights as the kernel reads them: 128 columns of zeros after the 5504. -/
theorem gate_pad (c : Dev nD) (k : Fin 2048) (l : Fin 5632) : (V m c main_v1 : FVec Ideal S2048x5632 .bf16) (ix2 k l)
    = if h : l.val < 5504 then gate m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem up_pad (c : Dev nD) (k : Fin 2048) (l : Fin 5632) : (V m c main_v3 : FVec Ideal S2048x5632 .bf16) (ix2 k l)
    = if h : l.val < 5504 then up m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem down_pad (c : Dev nD) (l : Fin 5632) (k : Fin 2048) : (V m c main_v5 : FVec Ideal S5632x2048 .bf16) (ix2 l k)
    = if h : l.val < 5504 then down m c (ix2 ⟨l.val, h⟩ k) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem tile_lt (t : Fin cfg0.N) (r : Fin 512) : t.val / 11 * 512 + r.val < 8192 := by
  have : t.val < 176 := t.isLt
  omega

/-- The scratch holds, at every column tile, the normalised rows of the row tile: the first column tile writes them. -/
theorem held (c : Dev nD) (t : Fin cfg0.N) (r : Fin 512) (k : Fin 2048) :
    (outsAt0 m c t.val t.isLt).2 (ix2 r k) = normed (rows m c) (gain m c) (ix2 ⟨t.val / 11 * 512 + r.val, tile_lt t r⟩ k) := by
  have h := Pipeline.eq_of_write_hold_apply (fun n h => (outsAt0 m c n h).2) 11
    (fun t i => k0_pay1 (F := Ideal) (iblk m c 0 t) (iblk m c 1 t) i)
    (fun t h0 i => by
      have h1 : ¬t.val % 11 = 10 := by omega
      show (outsAt0 m c t.val t.isLt).2 i = _
      rw [outsAt0_A m c t h0 h1]; frame_out)
    (fun t h0 i => by
      show (outsAt0 m c t.val t.isLt).2 i = _
      by_cases h1 : t.val % 11 = 10
      · rw [outsAt0_C m c t h0 h1]; rfl
      · rw [outsAt0_B m c t h0 h1]; rfl) t (ix2 r k)
  refine h.trans ?_
  rw [normed_at]
  pointwise [k0_pay1]
  have h2 : 11 * (t.val / 11) / 11 = t.val / 11 := by omega
  blk_point [iblk, V, idx ⟨11 * (t.val / 11), Pipeline.run_start_lt t⟩, h2]

/-- The product of hidden column `l` with row `l` of the down projection; nothing at the padding. -/
def prod (c : Dev nD) (r : Fin 8192) (k : Fin 2048) (l : Fin 5632) : EReal :=
  if h : l.val < 5504 then hidden (normed (rows m c) (gain m c)) (gate m c) (up m c) (ix2 r ⟨l.val, h⟩) * down m c (ix2 ⟨l.val, h⟩ k) else 0

theorem lane_lt (t : Fin cfg0.N) (x : Fin 512) : t.val % 11 * 512 + x.val < 5632 := by omega

theorem gate_blk (c : Dev nD) (t : Fin cfg0.N) (j : Fin 2048) (x : Fin 512) (hl : t.val % 11 * 512 + x.val < 5504) :
    (iblk m c 2 t : FVec Ideal S2048x512 .bf16) (ix2 j x) = gate m c (ix2 j ⟨t.val % 11 * 512 + x.val, hl⟩) := by
  have h : (iblk m c 2 t : FVec Ideal S2048x512 .bf16) (ix2 j x)
      = (V m c main_v1 : FVec Ideal S2048x5632 .bf16) (ix2 j ⟨t.val % 11 * 512 + x.val, lane_lt t x⟩) := by blk_ext [iblk, idx t]
  rw [h, gate_pad, dif_pos hl]

theorem up_blk (c : Dev nD) (t : Fin cfg0.N) (j : Fin 2048) (x : Fin 512) (hl : t.val % 11 * 512 + x.val < 5504) :
    (iblk m c 3 t : FVec Ideal S2048x512 .bf16) (ix2 j x) = up m c (ix2 j ⟨t.val % 11 * 512 + x.val, hl⟩) := by
  have h : (iblk m c 3 t : FVec Ideal S2048x512 .bf16) (ix2 j x)
      = (V m c main_v3 : FVec Ideal S2048x5632 .bf16) (ix2 j ⟨t.val % 11 * 512 + x.val, lane_lt t x⟩) := by blk_ext [iblk, idx t]
  rw [h, up_pad, dif_pos hl]

theorem down_blk (c : Dev nD) (t : Fin cfg0.N) (x : Fin 512) (k : Fin 2048) :
    (iblk m c 4 t : FVec Ideal S512x2048 .bf16) (ix2 x k) = (V m c main_v5 : FVec Ideal S5632x2048 .bf16) (ix2 ⟨t.val % 11 * 512 + x.val, lane_lt t x⟩ k) := by
  blk_ext [iblk, idx t]

/-- What column tile `t` adds at row `r`, column `k` of its row tile. -/
def term (c : Dev nD) (t : Fin cfg0.N) (y : S512x2048.Idx) : EReal :=
  ∑ x : Fin 512, prod m c ⟨t.val / 11 * 512 + (y 0).val, tile_lt t (y 0)⟩ (y 1) ⟨t.val % 11 * 512 + x.val, lane_lt t x⟩

/-- A column tile over the normalised rows adds its term. -/
theorem tile_eq (c : Dev nD) (t : Fin cfg0.N) (h : FVec Ideal S512x2048 .bf16)
    (hh : ∀ (r : Fin 512) (k : Fin 2048), h (ix2 r k) = normed (rows m c) (gain m c) (ix2 ⟨t.val / 11 * 512 + r.val, tile_lt t r⟩ k))
    (acc : FVec Ideal S512x2048 .f32) (y : S512x2048.Idx) :
    k0_pay3 (F := Ideal) h (iblk m c 2 t) (iblk m c 3 t) acc (iblk m c 4 t) y = acc y + term m c t y := by
  obtain ⟨r, k, rfl⟩ : ∃ (r : Fin 512) (k : Fin 2048), y = ix2 r k := ⟨y 0, y 1, by funext i; fin_cases i <;> rfl⟩
  refine (tile_at h _ _ acc _ r k).trans (congrArg (acc (ix2 r k) + ·) ?_)
  refine Fin.sum_fin_congr fun x => ?_
  show _ = prod m c ⟨t.val / 11 * 512 + r.val, tile_lt t r⟩ k ⟨t.val % 11 * 512 + x.val, lane_lt t x⟩
  rw [down_blk, down_pad]
  unfold prod
  split
  · rename_i hl
    rw [hidden_at]
    simp only [gate_blk m c t _ x hl, up_blk m c t _ x hl, hh]
  · exact mul_zero _

/-- A row's sums over the column tiles done so far: the output block before the last point's normalisation. -/
def acc (c : Dev nD) (n : ℕ) (h : n < cfg0.N) : FVec Ideal S512x2048 .f32 :=
  if n % 11 = 10 then
    k0_pay3 (F := Ideal) (outsAt0 m c n h).2 (iblk m c 2 ⟨n, h⟩) (iblk m c 3 ⟨n, h⟩)
      (outsAt0 m c (n - 1) (Nat.lt_of_le_of_lt (Nat.sub_le _ _) h)).1 (iblk m c 4 ⟨n, h⟩)
  else (outsAt0 m c n h).1

theorem acc_first (c : Dev nD) (t : Fin cfg0.N) (h0 : t.val % 11 = 0) (y : S512x2048.Idx) :
    acc m c t.val t.isLt y = 0 + term m c t y := by
  have h1 : ¬t.val % 11 = 10 := by omega
  have hn : ∀ (r : Fin 512) (k : Fin 2048), k0_pay1 (F := Ideal) (iblk m c 0 t) (iblk m c 1 t) (ix2 r k)
      = normed (rows m c) (gain m c) (ix2 ⟨t.val / 11 * 512 + r.val, tile_lt t r⟩ k) := fun r k => by
    rw [← held m c t r k, outsAt0_A m c t h0 h1]; frame_out
  unfold acc
  rw [if_neg h1, outsAt0_A m c t h0 h1]; frame_out
  refine (tile_eq m c t _ hn _ y).trans (congrArg (· + term m c t y) ?_)
  obtain ⟨r, k, rfl⟩ : ∃ (r : Fin 512) (k : Fin 2048), y = ix2 r k := ⟨y 0, y 1, by funext i; fin_cases i <;> rfl⟩
  exact zero_at r k

/-- Past the first column tile of a run the scratch is what the point before left. -/
theorem scratch_step (c : Dev nD) (t : Fin cfg0.N) (h0 : ¬t.val % 11 = 0) : (outsAt0 m c t.val t.isLt).2
    = (outsAt0 m c (t.val - 1) (Nat.lt_of_le_of_lt (Nat.sub_le _ _) t.isLt)).2 := by
  by_cases h1 : t.val % 11 = 10
  · rw [outsAt0_C m c t h0 h1]; rfl
  · rw [outsAt0_B m c t h0 h1]; rfl

theorem acc_next (c : Dev nD) (t : Fin cfg0.N) (h0 : ¬t.val % 11 = 0) (y : S512x2048.Idx) :
    acc m c t.val t.isLt y = acc m c (t.val - 1) (Nat.lt_of_le_of_lt (Nat.sub_le _ _) t.isLt) y + term m c t y := by
  have hp : acc m c (t.val - 1) (Nat.lt_of_le_of_lt (Nat.sub_le _ _) t.isLt)
      = (outsAt0 m c (t.val - 1) (Nat.lt_of_le_of_lt (Nat.sub_le _ _) t.isLt)).1 := by
    unfold acc
    rw [if_neg (by omega)]
  rw [hp]
  refine Eq.trans ?_ (tile_eq m c t _ (held m c t) _ y)
  unfold acc
  by_cases h1 : t.val % 11 = 10
  · rw [if_pos h1]
  · rw [if_neg h1, scratch_step m c t h0, outsAt0_B m c t h0 h1]; frame_out
    rw [read_unread_whole]

/-- At the last column tile the sums are the reference's product with the down projection. -/
theorem acc_last (c : Dev nD) (t : Fin cfg0.N) (h1 : t.val % 11 = 10) (r : Fin 512) (k : Fin 2048) :
    acc m c t.val t.isLt (ix2 r k) = ∑ l : Fin 5504,
      hidden (normed (rows m c) (gain m c)) (gate m c) (up m c) (ix2 ⟨t.val / 11 * 512 + r.val, tile_lt t r⟩ l) * down m c (ix2 l k) := by
  rw [Pipeline.eq_sum_fin_of_reset_step_apply_of_flush (acc m c) 11 (fun _ => (0 : EReal)) (term m c) (acc_first m c) (acc_next m c) t h1
    (ix2 r k)]
  rw [zero_add]
  have hsum : ∑ s : Fin 11, term m c ⟨11 * (t.val / 11) + s.val, Pipeline.run_point_lt_of_flush t h1 s⟩ (ix2 r k)
      = ∑ l : Fin 5632, prod m c ⟨t.val / 11 * 512 + r.val, tile_lt t r⟩ k l := by
    refine Fin.sum_mul_add_congr fun s x hl => ?_
    have hq : (11 * (t.val / 11) + s.val) / 11 = t.val / 11 := by omega
    have hm : (11 * (t.val / 11) + s.val) % 11 = s.val := by omega
    congr 1
    · exact Fin.ext (by show (11 * (t.val / 11) + s.val) / 11 * 512 + r.val = t.val / 11 * 512 + r.val; rw [hq])
    · exact Fin.ext (by show (11 * (t.val / 11) + s.val) % 11 * 512 + x.val = s.val * 512 + x.val; rw [hm])
  refine hsum.trans ((Fin.sum_univ_add (a := 5504) (b := 128) _).trans ?_)
  have hz : ∑ i : Fin 128, prod m c ⟨t.val / 11 * 512 + r.val, tile_lt t r⟩ k (Fin.natAdd 5504 i) = 0 :=
    Finset.sum_eq_zero fun i _ => dif_neg (by simp)
  rw [hz, add_zero]
  refine Fin.sum_fin_congr fun l => ?_
  unfold prod
  exact dif_pos l.isLt

/-- The reference's array: the half-step's rows normalised again. -/
abbrev fed (c : Dev nD) : FVec Ideal S8192x2048 .f32 :=
  normed (stepped (rows m c) (hidden (normed (rows m c) (gain m c)) (gate m c) (up m c)) (down m c)) (gain' m c)

/-- What the last column tile's point stores is the reference's array at its rows. -/
theorem point (c : Dev nD) (t : Fin cfg0.N) (h1 : t.val % 11 = 10) (r : Fin 512) (k : Fin 2048) :
    k0_pay4 (F := Ideal) (iblk m c 0 t) (acc m c t.val t.isLt) (iblk m c 5 t) (ix2 r k)
      = fed m c (ix2 ⟨t.val / 11 * 512 + r.val, tile_lt t r⟩ k) := by
  unfold fed
  rw [normed_at]
  simp only [stepped_at, ← acc_last m c t h1]
  pointwise [k0_pay4]
  blk_point [iblk, V, idx t]

theorem final (c : Dev nD) : (dats m 0 c).arrAt 6 (cfgs 0).N = fed m c := by
  refine (dats m 0 c).arrAt_eq_of_covers 6 _ (by decide +kernel) fun t hf y => ?_
  have h1 : t.val % 11 = 10 := (flush0_6 t).mp hf
  have h0 : ¬t.val % 11 = 0 := by omega
  blk_simp
  rw [after0_6]
  obtain ⟨r, k, rfl⟩ : ∃ (r : Fin 512) (k : Fin 2048), y = ix2 r k := ⟨y 0, y 1, by funext i; fin_cases i <;> rfl⟩
  have hs : (outsAt0 m c t.val t.isLt).1 = k0_pay4 (F := Ideal) (iblk m c 0 t) (acc m c t.val t.isLt) (iblk m c 5 t) := by
    unfold acc
    rw [if_pos h1, scratch_step m c t h0, outsAt0_C m c t h0 h1]; frame_out
    rw [read_unread_whole]
  rw [hs]
  refine (point m c t h1 r k).trans ?_
  blk_ext [idx t]

end Cert.Ffn

end
-- ==== Proof.FfnClaim.lean ====
/- The claim about the feed-forward half-step: the kernel's run leaves the array `Cert.Ffn.final` names, the reference's run the same. -/
module

public import proofs.«01_k».proof.Defs
public import proofs.«01_k».proof.Proof.Ffn
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Ffn

open Cert.Kernel2Ideal.Gen

theorem algebraic : Cert.algebraic_Kernel2Ideal_Reference2Ideal := by
  pair_intro
  · run_from Cert.Kernel2Ideal.Gen.run_main m g
    exacts [V_main_arg2 m c, V_main_arg3 m c, V_main_arg4 m c]
  · run_from Cert.Reference2Ideal.Value.run m' g'
    obtain ⟨a0, a1, a2, a3, a4, a5⟩ := hagree c
    unfold Cert.Reference2Ideal.Value.res_main_v31
    rw [a0, a1, a2, a3, a4, a5]
    exact (final m c).symm

end Cert.Ffn

end
-- ==== Proof.First.lean ====
/-
  The first feed-forward half-step: the walk over the column tiles is that of the last half-step, but the last column tile's point
  stores `x + 1/2 sum` as it is. The reference's arrays are those of `Cert.Ffn`.
-/
module

public import proofs.«01_k».proof.Proof.Gen.Kernel5Ideal.Frame
public import proofs.«01_k».proof.Proof.Ffn
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.First

open Cert.Ffn (normed hidden stepped normed_at hidden_at stepped_at padding)

/-! ## The kernel's points -/

open Cert.Kernel5Ideal Cert.Kernel5Ideal.Gen

theorem zero_at (r : Fin 512) (k : Fin 2048) : k0_pay2 (F := Ideal) (ix2 r k) = 0 := by
  pointwise [k0_pay2]

/-- One column tile adds to a row the products of its 512 hidden columns with its 512 rows of the down projection. -/
theorem tile_at (h : FVec Ideal S512x2048 .bf16) (wg wu : FVec Ideal S2048x512 .bf16) (acc : FVec Ideal S512x2048 .f32)
    (wd : FVec Ideal S512x2048 .bf16) (r : Fin 512) (k : Fin 2048) :
    k0_pay3 (F := Ideal) h wg wu acc wd (ix2 r k)
      = acc (ix2 r k) + ∑ x : Fin 512, ((∑ j : Fin 2048, h (ix2 r j) * wg (ix2 j x))
          * Ideal.logistic (∑ j : Fin 2048, h (ix2 r j) * wg (ix2 j x)) * ∑ j : Fin 2048, h (ix2 r j) * wu (ix2 j x)) * wd (ix2 x k) := by
  pointwise [k0_pay3]

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0]
    ∧ win0_5.index t = ![t.val / 11, 0] :=
  (by decide +kernel : ∀ t : Fin grid0.N, _)

/-- The arguments, at their shapes. -/
abbrev rows (c : Dev nD) : FVec Ideal S8192x2048 .f32 := m ((c : Thread nD τ).loc main_arg0)
abbrev gain (c : Dev nD) : FVec Ideal S1x2048 .f32 := m ((c : Thread nD τ).loc main_arg1)
abbrev gate (c : Dev nD) : FVec Ideal S2048x5504 .f32 := m ((c : Thread nD τ).loc main_arg2)
abbrev up (c : Dev nD) : FVec Ideal S2048x5504 .f32 := m ((c : Thread nD τ).loc main_arg3)
abbrev down (c : Dev nD) : FVec Ideal S5504x2048 .f32 := m ((c : Thread nD τ).loc main_arg4)

/-- The gate's weights as the kernel reads them: 128 columns of zeros after the 5504. -/
theorem gate_pad (c : Dev nD) (k : Fin 2048) (l : Fin 5632) : (V m c main_v1 : FVec Ideal S2048x5632 .bf16) (ix2 k l)
    = if h : l.val < 5504 then gate m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem up_pad (c : Dev nD) (k : Fin 2048) (l : Fin 5632) : (V m c main_v3 : FVec Ideal S2048x5632 .bf16) (ix2 k l)
    = if h : l.val < 5504 then up m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem down_pad (c : Dev nD) (l : Fin 5632) (k : Fin 2048) : (V m c main_v5 : FVec Ideal S5632x2048 .bf16) (ix2 l k)
    = if h : l.val < 5504 then down m c (ix2 ⟨l.val, h⟩ k) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem tile_lt (t : Fin cfg0.N) (r : Fin 512) : t.val / 11 * 512 + r.val < 8192 := by
  have : t.val < 176 := t.isLt
  omega

/-- The scratch holds, at every column tile, the normalised rows of the row tile: the first column tile writes them. -/
theorem held (c : Dev nD) (t : Fin cfg0.N) (r : Fin 512) (k : Fin 2048) :
    (outsAt0 m c t.val t.isLt).2 (ix2 r k) = normed (rows m c) (gain m c) (ix2 ⟨t.val / 11 * 512 + r.val, tile_lt t r⟩ k) := by
  have h := Pipeline.eq_of_write_hold_apply (fun n h => (outsAt0 m c n h).2) 11
    (fun t i => k0_pay1 (F := Ideal) (iblk m c 0 t) (iblk m c 1 t) i)
    (fun t h0 i => by
      have h1 : ¬t.val % 11 = 10 := by omega
      show (outsAt0 m c t.val t.isLt).2 i = _
      rw [outsAt0_A m c t h0 h1]; frame_out)
    (fun t h0 i => by
      show (outsAt0 m c t.val t.isLt).2 i = _
      by_cases h1 : t.val % 11 = 10
      · rw [outsAt0_C m c t h0 h1]; rfl
      · rw [outsAt0_B m c t h0 h1]; rfl) t (ix2 r k)
  refine h.trans ?_
  rw [normed_at]
  pointwise [k0_pay1]
  have h2 : 11 * (t.val / 11) / 11 = t.val / 11 := by omega
  blk_point [iblk, V, idx ⟨11 * (t.val / 11), Pipeline.run_start_lt t⟩, h2]

/-- The product of hidden column `l` with row `l` of the down projection; nothing at the padding. -/
def prod (c : Dev nD) (r : Fin 8192) (k : Fin 2048) (l : Fin 5632) : EReal :=
  if h : l.val < 5504 then hidden (normed (rows m c) (gain m c)) (gate m c) (up m c) (ix2 r ⟨l.val, h⟩) * down m c (ix2 ⟨l.val, h⟩ k) else 0

theorem lane_lt (t : Fin cfg0.N) (x : Fin 512) : t.val % 11 * 512 + x.val < 5632 := by omega

theorem gate_blk (c : Dev nD) (t : Fin cfg0.N) (j : Fin 2048) (x : Fin 512) (hl : t.val % 11 * 512 + x.val < 5504) :
    (iblk m c 2 t : FVec Ideal S2048x512 .bf16) (ix2 j x) = gate m c (ix2 j ⟨t.val % 11 * 512 + x.val, hl⟩) := by
  have h : (iblk m c 2 t : FVec Ideal S2048x512 .bf16) (ix2 j x)
      = (V m c main_v1 : FVec Ideal S2048x5632 .bf16) (ix2 j ⟨t.val % 11 * 512 + x.val, lane_lt t x⟩) := by blk_ext [iblk, idx t]
  rw [h, gate_pad, dif_pos hl]

theorem up_blk (c : Dev nD) (t : Fin cfg0.N) (j : Fin 2048) (x : Fin 512) (hl : t.val % 11 * 512 + x.val < 5504) :
    (iblk m c 3 t : FVec Ideal S2048x512 .bf16) (ix2 j x) = up m c (ix2 j ⟨t.val % 11 * 512 + x.val, hl⟩) := by
  have h : (iblk m c 3 t : FVec Ideal S2048x512 .bf16) (ix2 j x)
      = (V m c main_v3 : FVec Ideal S2048x5632 .bf16) (ix2 j ⟨t.val % 11 * 512 + x.val, lane_lt t x⟩) := by blk_ext [iblk, idx t]
  rw [h, up_pad, dif_pos hl]

theorem down_blk (c : Dev nD) (t : Fin cfg0.N) (x : Fin 512) (k : Fin 2048) :
    (iblk m c 4 t : FVec Ideal S512x2048 .bf16) (ix2 x k) = (V m c main_v5 : FVec Ideal S5632x2048 .bf16) (ix2 ⟨t.val % 11 * 512 + x.val, lane_lt t x⟩ k) := by
  blk_ext [iblk, idx t]

/-- What column tile `t` adds at row `r`, column `k` of its row tile. -/
def term (c : Dev nD) (t : Fin cfg0.N) (y : S512x2048.Idx) : EReal :=
  ∑ x : Fin 512, prod m c ⟨t.val / 11 * 512 + (y 0).val, tile_lt t (y 0)⟩ (y 1) ⟨t.val % 11 * 512 + x.val, lane_lt t x⟩

/-- A column tile over the normalised rows adds its term. -/
theorem tile_eq (c : Dev nD) (t : Fin cfg0.N) (h : FVec Ideal S512x2048 .bf16)
    (hh : ∀ (r : Fin 512) (k : Fin 2048), h (ix2 r k) = normed (rows m c) (gain m c) (ix2 ⟨t.val / 11 * 512 + r.val, tile_lt t r⟩ k))
    (acc : FVec Ideal S512x2048 .f32) (y : S512x2048.Idx) :
    k0_pay3 (F := Ideal) h (iblk m c 2 t) (iblk m c 3 t) acc (iblk m c 4 t) y = acc y + term m c t y := by
  obtain ⟨r, k, rfl⟩ : ∃ (r : Fin 512) (k : Fin 2048), y = ix2 r k := ⟨y 0, y 1, by funext i; fin_cases i <;> rfl⟩
  refine (tile_at h _ _ acc _ r k).trans (congrArg (acc (ix2 r k) + ·) ?_)
  refine Fin.sum_fin_congr fun x => ?_
  show _ = prod m c ⟨t.val / 11 * 512 + r.val, tile_lt t r⟩ k ⟨t.val % 11 * 512 + x.val, lane_lt t x⟩
  rw [down_blk, down_pad]
  unfold prod
  split
  · rename_i hl
    rw [hidden_at]
    simp only [gate_blk m c t _ x hl, up_blk m c t _ x hl, hh]
  · exact mul_zero _

/-- A row's sums over the column tiles done so far: the output block before the last point's normalisation. -/
def acc (c : Dev nD) (n : ℕ) (h : n < cfg0.N) : FVec Ideal S512x2048 .f32 :=
  if n % 11 = 10 then
    k0_pay3 (F := Ideal) (outsAt0 m c n h).2 (iblk m c 2 ⟨n, h⟩) (iblk m c 3 ⟨n, h⟩)
      (outsAt0 m c (n - 1) (Nat.lt_of_le_of_lt (Nat.sub_le _ _) h)).1 (iblk m c 4 ⟨n, h⟩)
  else (outsAt0 m c n h).1

theorem acc_first (c : Dev nD) (t : Fin cfg0.N) (h0 : t.val % 11 = 0) (y : S512x2048.Idx) :
    acc m c t.val t.isLt y = 0 + term m c t y := by
  have h1 : ¬t.val % 11 = 10 := by omega
  have hn : ∀ (r : Fin 512) (k : Fin 2048), k0_pay1 (F := Ideal) (iblk m c 0 t) (iblk m c 1 t) (ix2 r k)
      = normed (rows m c) (gain m c) (ix2 ⟨t.val / 11 * 512 + r.val, tile_lt t r⟩ k) := fun r k => by
    rw [← held m c t r k, outsAt0_A m c t h0 h1]; frame_out
  unfold acc
  rw [if_neg h1, outsAt0_A m c t h0 h1]; frame_out
  refine (tile_eq m c t _ hn _ y).trans (congrArg (· + term m c t y) ?_)
  obtain ⟨r, k, rfl⟩ : ∃ (r : Fin 512) (k : Fin 2048), y = ix2 r k := ⟨y 0, y 1, by funext i; fin_cases i <;> rfl⟩
  exact zero_at r k

/-- Past the first column tile of a run the scratch is what the point before left. -/
theorem scratch_step (c : Dev nD) (t : Fin cfg0.N) (h0 : ¬t.val % 11 = 0) : (outsAt0 m c t.val t.isLt).2
    = (outsAt0 m c (t.val - 1) (Nat.lt_of_le_of_lt (Nat.sub_le _ _) t.isLt)).2 := by
  by_cases h1 : t.val % 11 = 10
  · rw [outsAt0_C m c t h0 h1]; rfl
  · rw [outsAt0_B m c t h0 h1]; rfl

theorem acc_next (c : Dev nD) (t : Fin cfg0.N) (h0 : ¬t.val % 11 = 0) (y : S512x2048.Idx) :
    acc m c t.val t.isLt y = acc m c (t.val - 1) (Nat.lt_of_le_of_lt (Nat.sub_le _ _) t.isLt) y + term m c t y := by
  have hp : acc m c (t.val - 1) (Nat.lt_of_le_of_lt (Nat.sub_le _ _) t.isLt)
      = (outsAt0 m c (t.val - 1) (Nat.lt_of_le_of_lt (Nat.sub_le _ _) t.isLt)).1 := by
    unfold acc
    rw [if_neg (by omega)]
  rw [hp]
  refine Eq.trans ?_ (tile_eq m c t _ (held m c t) _ y)
  unfold acc
  by_cases h1 : t.val % 11 = 10
  · rw [if_pos h1]
  · rw [if_neg h1, scratch_step m c t h0, outsAt0_B m c t h0 h1]; frame_out
    rw [read_unread_whole]

/-- At the last column tile the sums are the reference's product with the down projection. -/
theorem acc_last (c : Dev nD) (t : Fin cfg0.N) (h1 : t.val % 11 = 10) (r : Fin 512) (k : Fin 2048) :
    acc m c t.val t.isLt (ix2 r k) = ∑ l : Fin 5504,
      hidden (normed (rows m c) (gain m c)) (gate m c) (up m c) (ix2 ⟨t.val / 11 * 512 + r.val, tile_lt t r⟩ l) * down m c (ix2 l k) := by
  rw [Pipeline.eq_sum_fin_of_reset_step_apply_of_flush (acc m c) 11 (fun _ => (0 : EReal)) (term m c) (acc_first m c) (acc_next m c) t h1
    (ix2 r k)]
  rw [zero_add]
  have hsum : ∑ s : Fin 11, term m c ⟨11 * (t.val / 11) + s.val, Pipeline.run_point_lt_of_flush t h1 s⟩ (ix2 r k)
      = ∑ l : Fin 5632, prod m c ⟨t.val / 11 * 512 + r.val, tile_lt t r⟩ k l := by
    refine Fin.sum_mul_add_congr fun s x hl => ?_
    have hq : (11 * (t.val / 11) + s.val) / 11 = t.val / 11 := by omega
    have hm : (11 * (t.val / 11) + s.val) % 11 = s.val := by omega
    congr 1
    · exact Fin.ext (by show (11 * (t.val / 11) + s.val) / 11 * 512 + r.val = t.val / 11 * 512 + r.val; rw [hq])
    · exact Fin.ext (by show (11 * (t.val / 11) + s.val) % 11 * 512 + x.val = s.val * 512 + x.val; rw [hm])
  refine hsum.trans ((Fin.sum_univ_add (a := 5504) (b := 128) _).trans ?_)
  have hz : ∑ i : Fin 128, prod m c ⟨t.val / 11 * 512 + r.val, tile_lt t r⟩ k (Fin.natAdd 5504 i) = 0 :=
    Finset.sum_eq_zero fun i _ => dif_neg (by simp)
  rw [hz, add_zero]
  refine Fin.sum_fin_congr fun l => ?_
  unfold prod
  exact dif_pos l.isLt

/-- The reference's array. -/
abbrev fed (c : Dev nD) : FVec Ideal S8192x2048 .f32 :=
  stepped (rows m c) (hidden (normed (rows m c) (gain m c)) (gate m c) (up m c)) (down m c)

/-- What the last column tile's point stores is the reference's array at its rows. -/
theorem point (c : Dev nD) (t : Fin cfg0.N) (h1 : t.val % 11 = 10) (r : Fin 512) (k : Fin 2048) :
    k0_pay4 (F := Ideal) (iblk m c 0 t) (acc m c t.val t.isLt) (ix2 r k) = fed m c (ix2 ⟨t.val / 11 * 512 + r.val, tile_lt t r⟩ k) := by
  unfold fed
  rw [stepped_at, ← acc_last m c t h1]
  pointwise [k0_pay4]
  blk_point [iblk, V, idx t]

theorem final (c : Dev nD) : (dats m 0 c).arrAt 5 (cfgs 0).N = fed m c := by
  refine (dats m 0 c).arrAt_eq_of_covers 5 _ (by decide +kernel) fun t hf y => ?_
  have h1 : t.val % 11 = 10 := (flush0_5 t).mp hf
  have h0 : ¬t.val % 11 = 0 := by omega
  blk_simp
  rw [after0_5]
  obtain ⟨r, k, rfl⟩ : ∃ (r : Fin 512) (k : Fin 2048), y = ix2 r k := ⟨y 0, y 1, by funext i; fin_cases i <;> rfl⟩
  have hs : (outsAt0 m c t.val t.isLt).1 = k0_pay4 (F := Ideal) (iblk m c 0 t) (acc m c t.val t.isLt) := by
    unfold acc
    rw [if_pos h1, scratch_step m c t h0, outsAt0_C m c t h0 h1]; frame_out
    rw [read_unread_whole]
  rw [hs]
  refine (point m c t h1 r k).trans ?_
  blk_ext [idx t]

end Cert.First

end
-- ==== Proof.FirstClaim.lean ====
/- The claim about the first feed-forward half-step: the kernel's run leaves the array `Cert.First.final` names, the reference's run the same. -/
module

public import proofs.«01_k».proof.Defs
public import proofs.«01_k».proof.Proof.First
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem

namespace Cert.First

open Cert.Kernel5Ideal.Gen

set_option maxHeartbeats 4000000 in
theorem algebraic : Cert.algebraic_Kernel5Ideal_Reference5Ideal := by
  pair_intro
  · run_from Cert.Kernel5Ideal.Gen.run_main m g
    exacts [V_main_arg2 m c, V_main_arg3 m c, V_main_arg4 m c]
  · run_from Cert.Reference5Ideal.Value.run m' g'
    exact (final m c).symm

end Cert.First

end
-- ==== Proof.Project.lean ====
/-
  The projections: 16 row tiles by 4 column tiles. A row tile's first point normalises its rows into a scratch that the other three
  read; every point multiplies them by one column tile of each of the five sections of the weights.
-/
module

public import proofs.«01_k».proof.Proof.Gen.Kernel3Ideal.Frame
public import proofs.«01_k».proof.Proof.Gen.Reference3Ideal
public import proofs.«01_k».proof.Proof.Ffn

@[expose] public section

set_option maxRecDepth 16384

noncomputable section

open Idealize.ShloMosaic Idealize.ShloMosaic.TcCoe Idealize.SL.Sem
open Idealize.ShloMosaic.Pipeline (Dat)

namespace Cert.Project

/-! ## The reference's arrays -/

section Arrays

open Cert.Reference3Ideal Cert.Reference3Ideal.Gen

/-- All five sections side by side: the normalised rows times the weights. -/
def sections (N : FVec Ideal S8192x2048 .f32) (W : FVec Ideal S2048x10240 .f32) : FVec Ideal S8192x10240 .f32 :=
  Host.dotGeneral dot_S8192x2048_S2048x10240_S8192x10240_1_0_0_1_n_n none N W

/-- The logistic function as the reference spells it. -/
def gated (P : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf P)))

theorem sections_at (N : FVec Ideal S8192x2048 .f32) (W : FVec Ideal S2048x10240 .f32) (r : Fin 8192) (k : Fin 10240) :
    sections N W (ix2 r k) = ∑ x : Fin 2048, N (ix2 r x) * W (ix2 x k) := by
  pointwise [sections]

theorem gated_at (P : FVec Ideal S8192x2048 .f32) (i : S8192x2048.Idx) : gated P i = Ideal.logistic (P i) := by
  pointwise [gated]
  rfl

abbrev query (P : FVec Ideal S8192x10240 .f32) : FVec Ideal S8192x2048 .bf16 :=
  truncf .bf16 (mulf (extractStridedSlice S8192x2048 ![0, 0] P slices_S8192x10240_S8192x2048_0_0)
    (broadcastInDim S8192x2048 ![] bcast_S_S8192x2048 (constant S_ .f32 0x3E000000#32))) bitsLt_bf16_f32
abbrev key (P : FVec Ideal S8192x10240 .f32) : FVec Ideal S8192x2048 .f32 :=
  extractStridedSlice S8192x2048 ![0, 2048] P slices_S8192x10240_S8192x2048_0_2048
abbrev value (P : FVec Ideal S8192x10240 .f32) : FVec Ideal S8192x2048 .f32 :=
  extractStridedSlice S8192x2048 ![0, 4096] P slices_S8192x10240_S8192x2048_0_4096
abbrev gateA (P : FVec Ideal S8192x10240 .f32) : FVec Ideal S8192x2048 .bf16 :=
  truncf .bf16 (gated (extractStridedSlice S8192x2048 ![0, 6144] P slices_S8192x10240_S8192x2048_0_6144)) bitsLt_bf16_f32
abbrev gateB (P : FVec Ideal S8192x10240 .f32) : FVec Ideal S8192x2048 .bf16 :=
  truncf .bf16 (gated (extractStridedSlice S8192x2048 ![0, 8192] P slices_S8192x10240_S8192x2048_0_8192)) bitsLt_bf16_f32
abbrev narrow (P : FVec Ideal S8192x2048 .f32) : FVec Ideal S8192x2048 .bf16 := truncf .bf16 P bitsLt_bf16_f32

end Arrays

/-! ## The kernel's points -/

open Cert.Kernel3Ideal Cert.Kernel3Ideal.Gen

variable (m : (ℓ : Loc nD τ sig) → Buf (Elt Ideal) ℓ)

theorem idx : ∀ t : Fin cfg0.N, win0_0.index t = ![t.val / 4, 0] ∧ win0_1.index t = ![0, 0] ∧ win0_2.index t = ![0, t.val % 4]
    ∧ win0_3.index t = ![0, 4 + t.val % 4] ∧ win0_4.index t = ![0, 8 + t.val % 4] ∧ win0_5.index t = ![0, 12 + t.val % 4]
    ∧ win0_6.index t = ![0, 16 + t.val % 4] ∧ win0_7.index t = ![t.val / 4, t.val % 4] ∧ win0_8.index t = ![t.val / 4, t.val % 4]
    ∧ win0_9.index t = ![t.val / 4, t.val % 4] ∧ win0_10.index t = ![t.val / 4, t.val % 4] ∧ win0_11.index t = ![t.val / 4, t.val % 4]
    ∧ win0_12.index t = ![t.val / 4, t.val % 4] ∧ win0_13.index t = ![t.val / 4, t.val % 4] :=
  (by decide +kernel : ∀ t : Fin grid0.N, _)

/-- The reference's normalised rows and sections, over the arguments. -/
abbrev rows (c : Dev nD) : FVec Ideal S8192x2048 .f32 :=
  Cert.Ffn.normed (m ((c : Thread nD τ).loc main_arg0)) (m ((c : Thread nD τ).loc main_arg1))
abbrev all (c : Dev nD) : FVec Ideal Cert.Reference3Ideal.S8192x10240 .f32 := sections (rows m c) (m ((c : Thread nD τ).loc main_arg2))

theorem tile_lt (t : Fin cfg0.N) (r : Fin 512) : t.val / 4 * 512 + r.val < 8192 := by
  have : t.val < 64 := t.isLt
  omega

/-- The scratch after a point. -/
abbrev scratch (c : Dev nD) (t : Fin cfg0.N) : FVec Ideal S512x2048 .bf16 := (outsAt0 m c t.val t.isLt).2.2.2.2.2.2.2

theorem scratch_first (c : Dev nD) (t : Fin cfg0.N) (h0 : t.val % 4 = 0) :
    scratch m c t = k0_pay3 (F := Ideal) (iblk m c 0 t) (iblk m c 1 t) := by
  unfold scratch
  funext i
  rw [outsAt0_A m c t h0]; frame_out

theorem scratch_next (c : Dev nD) (t : Fin cfg0.N) (h0 : ¬t.val % 4 = 0) :
    scratch m c t = (outsAt0 m c (t.val - 1) (Nat.lt_of_le_of_lt (Nat.sub_le _ _) t.isLt)).2.2.2.2.2.2.2 := by
  unfold scratch
  rw [outsAt0_B m c t h0]; rfl

/-- The scratch holds, at every column tile, the normalised rows of the row tile. -/
theorem held (c : Dev nD) (t : Fin cfg0.N) (r : Fin 512) (k : Fin 2048) :
    scratch m c t (ix2 r k) = rows m c (ix2 ⟨t.val / 4 * 512 + r.val, tile_lt t r⟩ k) := by
  have h := Pipeline.eq_of_write_hold_apply (fun n h => (outsAt0 m c n h).2.2.2.2.2.2.2) 4
    (fun t i => k0_pay3 (F := Ideal) (iblk m c 0 t) (iblk m c 1 t) i)
    (fun t h0 i => congrFun (scratch_first m c t h0) i) (fun t h0 i => congrFun (scratch_next m c t h0) i) t (ix2 r k)
  refine h.trans ?_
  unfold rows
  rw [Cert.Ffn.normed_at]
  pointwise [k0_pay3]
  have h2 : 4 * (t.val / 4) / 4 = t.val / 4 := by omega
  blk_point [iblk, V, idx ⟨4 * (t.val / 4), Pipeline.run_start_lt t⟩, h2]

theorem query_stored (c : Dev nD) (t : Fin cfg0.N) : (outsAt0 m c t.val t.isLt).1 = k0_pay4 (scratch m c t) (iblk m c 2 t) := by
  funext i
  by_cases h0 : t.val % 4 = 0
  · rw [scratch_first m c t h0, outsAt0_A m c t h0]; frame_out
  · rw [scratch_next m c t h0, outsAt0_B m c t h0]; frame_out
    rw [read_unread_whole]

theorem query_final (c : Dev nD) : (dats m 0 c).arrAt 7 (cfgs 0).N = query (all m c) := by
  refine (dats m 0 c).arrAt_eq_of_covers 7 _ (by decide +kernel) fun t _ y => ?_
  blk_simp
  rw [after0_7, query_stored]
  obtain ⟨r, k, rfl⟩ : ∃ (r : Fin 512) (k : Fin 512), y = ix2 r k := ⟨y 0, y 1, by funext i; fin_cases i <;> rfl⟩
  pointwise [k0_pay4, query, key, value, narrow, gateA, gateB, gated_at, sections_at, held]
  blk_point [iblk, V, idx t]

theorem key_stored (c : Dev nD) (t : Fin cfg0.N) : (outsAt0 m c t.val t.isLt).2.1 = k0_pay5 (scratch m c t) (iblk m c 3 t) := by
  funext i
  by_cases h0 : t.val % 4 = 0
  · rw [scratch_first m c t h0, outsAt0_A m c t h0]; frame_out
  · rw [scratch_next m c t h0, outsAt0_B m c t h0]; frame_out
    rw [read_unread_whole]

theorem key_final (c : Dev nD) : (dats m 0 c).arrAt 8 (cfgs 0).N = key (all m c) := by
  refine (dats m 0 c).arrAt_eq_of_covers 8 _ (by decide +kernel) fun t _ y => ?_
  blk_simp
  rw [after0_8, key_stored]
  obtain ⟨r, k, rfl⟩ : ∃ (r : Fin 512) (k : Fin 512), y = ix2 r k := ⟨y 0, y 1, by funext i; fin_cases i <;> rfl⟩
  pointwise [k0_pay5, query, key, value, narrow, gateA, gateB, gated_at, sections_at, held]
  blk_point [iblk, V, idx t]

theorem value_stored (c : Dev nD) (t : Fin cfg0.N) : (outsAt0 m c t.val t.isLt).2.2.1 = k0_pay7 (scratch m c t) (iblk m c 4 t) := by
  funext i
  by_cases h0 : t.val % 4 = 0
  · rw [scratch_first m c t h0, outsAt0_A m c t h0]; frame_out
  · rw [scratch_next m c t h0, outsAt0_B m c t h0]; frame_out
    rw [read_unread_whole]

theorem value_final (c : Dev nD) : (dats m 0 c).arrAt 9 (cfgs 0).N = value (all m c) := by
  refine (dats m 0 c).arrAt_eq_of_covers 9 _ (by decide +kernel) fun t _ y => ?_
  blk_simp
  rw [after0_9, value_stored]
  obtain ⟨r, k, rfl⟩ : ∃ (r : Fin 512) (k : Fin 512), y = ix2 r k := ⟨y 0, y 1, by funext i; fin_cases i <;> rfl⟩
  pointwise [k0_pay7, query, key, value, narrow, gateA, gateB, gated_at, sections_at, held]
  blk_point [iblk, V, idx t]

theorem key16_stored (c : Dev nD) (t : Fin cfg0.N) : (outsAt0 m c t.val t.isLt).2.2.2.1 = k0_pay6 (scratch m c t) (iblk m c 3 t) := by
  funext i
  by_cases h0 : t.val % 4 = 0
  · rw [scratch_first m c t h0, outsAt0_A m c t h0]; frame_out
  · rw [scratch_next m c t h0, outsAt0_B m c t h0]; frame_out
    rw [read_unread_whole]

theorem key16_final (c : Dev nD) : (dats m 0 c).arrAt 10 (cfgs 0).N = narrow (key (all m c)) := by
  refine (dats m 0 c).arrAt_eq_of_covers 10 _ (by decide +kernel) fun t _ y => ?_
  blk_simp
  rw [after0_10, key16_stored]
  obtain ⟨r, k, rfl⟩ : ∃ (r : Fin 512) (k : Fin 512), y = ix2 r k := ⟨y 0, y 1, by funext i; fin_cases i <;> rfl⟩
  pointwise [k0_pay6, k0_pay5, query, key, value, narrow, gateA, gateB, gated_at, sections_at, held]
  blk_point [iblk, V, idx t]

theorem value16_stored (c : Dev nD) (t : Fin cfg0.N) : (outsAt0 m c t.val t.isLt).2.2.2.2.1 = k0_pay8 (scratch m c t) (iblk m c 4 t) := by
  funext i
  by_cases h0 : t.val % 4 = 0
  · rw [scratch_first m c t h0, outsAt0_A m c t h0]; frame_out
  · rw [scratch_next m c t h0, outsAt0_B m c t h0]; frame_out
    rw [read_unread_whole]

theorem value16_final (c : Dev nD) : (dats m 0 c).arrAt 11 (cfgs 0).N = narrow (value (all m c)) := by
  refine (dats m 0 c).arrAt_eq_of_covers 11 _ (by decide +kernel) fun t _ y => ?_
  blk_simp
  rw [after0_11, value16_stored]
  obtain ⟨r, k, rfl⟩ : ∃ (r : Fin 512) (k : Fin 512), y = ix2 r k := ⟨y 0, y 1, by funext i; fin_cases i <;> rfl⟩
  pointwise [k0_pay8, k0_pay7, query, key, value, narrow, gateA, gateB, gated_at, sections_at, held]
  blk_point [iblk, V, idx t]

theorem gateA_stored (c : Dev nD) (t : Fin cfg0.N) : (outsAt0 m c t.val t.isLt).2.2.2.2.2.1 = k0_pay1 (scratch m c t) (k0_pay9 (iblk m c 5 t)) (constant S512x512 .f32 0x00000000#32) := by
  funext i
  by_cases h0 : t.val % 4 = 0
  · rw [scratch_first m c t h0, outsAt0_A m c t h0]; frame_out
  · rw [scratch_next m c t h0, outsAt0_B m c t h0]; frame_out
    rw [read_unread_whole]

theorem gateA_final (c : Dev nD) : (dats m 0 c).arrAt 12 (cfgs 0).N = gateA (all m c) := by
  refine (dats m 0 c).arrAt_eq_of_covers 12 _ (by decide +kernel) fun t _ y => ?_
  blk_simp
  rw [after0_12, gateA_stored]
  obtain ⟨r, k, rfl⟩ : ∃ (r : Fin 512) (k : Fin 512), y = ix2 r k := ⟨y 0, y 1, by funext i; fin_cases i <;> rfl⟩
  pointwise [k0_pay1, k0_pay9, query, key, value, narrow, gateA, gateB, gated_at, sections_at, held]
  blk_point [iblk, V, idx t]

theorem gateB_stored (c : Dev nD) (t : Fin cfg0.N) : (outsAt0 m c t.val t.isLt).2.2.2.2.2.2.1 = k0_pay2 (scratch m c t) (iblk m c 6 t) := by
  funext i
  by_cases h0 : t.val % 4 = 0
  · rw [scratch_first m c t h0, outsAt0_A m c t h0]; frame_out
  · rw [scratch_next m c t h0, outsAt0_B m c t h0]; frame_out
    rw [read_unread_whole]

theorem gateB_final (c : Dev nD) : (dats m 0 c).arrAt 13 (cfgs 0).N = gateB (all m c) := by
  refine (dats m 0 c).arrAt_eq_of_covers 13 _ (by decide +kernel) fun t _ y => ?_
  blk_simp
  rw [after0_13, gateB_stored]
  obtain ⟨r, k, rfl⟩ : ∃ (r : Fin 512) (k : Fin 512), y = ix2 r k := ⟨y 0, y 1, by funext i; fin_cases i <;> rfl⟩
  pointwise [k0_pay2, query, key, value, narrow, gateA, gateB, gated_at, sections_at, held]
  blk_point [iblk, V, idx t]

end Cert.Project

end
-- ==== Proof.ProjectClaim.lean ====
/- The claim about the projections: the kernel's run leaves the array the `final` theorems name, the reference's run the same. -/
module

public import proofs.«01_k».proof.Defs
public import proofs.«01_k».proof.Proof.Project
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Project

open Cert.Kernel3Ideal.Gen

set_option maxHeartbeats 4000000 in
theorem algebraic : Cert.algebraic_Kernel3Ideal_Reference3Ideal := by
  pair_intro
  · run_from Cert.Kernel3Ideal.Gen.run_main m g
  · run_from Cert.Reference3Ideal.Value.run m' g'
    · exact (query_final m c).symm
    · exact (key_final m c).symm
    · exact (value_final m c).symm
    · exact (key16_final m c).symm
    · exact (value16_final m c).symm
    · exact (gateA_final m c).symm
    · exact (gateB_final m c).symm

end Cert.Project

end
-- ==== Proof.Merge.lean ====
/-
  The merge of the two branches: 32 points, each storing 256 rows of `h + (s_a * (o_a @ w_up_a) + s_b * (o_b @ w_up_b)) @ w_out`.
  The rows of a block depend on the same rows of the inputs, so every stored block is the block of the reference's array.
-/
module

public import proofs.«01_k».proof.Proof.Gen.Kernel4Ideal.Value
public import proofs.«01_k».proof.Proof.Gen.Reference4Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Merge

open Cert.Kernel4Ideal Cert.Kernel4Ideal.Gen

variable (m : (ℓ : Loc nD τ sig) → Buf (Elt Ideal) ℓ)

/-- The reference's array, over the arguments. -/
abbrev merged (oa ob : FVec Ideal S8192x1024 .bf16) (sa sb : FVec Ideal S8192x2048 .bf16) (h : FVec Ideal S8192x2048 .f32)
    (wa wb : FVec Ideal S1024x2048 .bf16) (wo : FVec Ideal S2048x2048 .bf16) : FVec Ideal S8192x2048 .f32 :=
  addf h (Host.dotGeneral Cert.Reference4Ideal.dot_S8192x2048_S2048x2048_S8192x2048_1_0_0_1_n_n none
    (addf
      (mulf (extf .f32 sa Cert.Reference4Ideal.Gen.bitsLt_bf16_f32)
        (Host.dotGeneral Cert.Reference4Ideal.dot_S8192x1024_S1024x2048_S8192x2048_1_0_0_1_n_n none
          (extf .f32 oa Cert.Reference4Ideal.Gen.bitsLt_bf16_f32) (extf .f32 wa Cert.Reference4Ideal.Gen.bitsLt_bf16_f32)))
      (mulf (extf .f32 sb Cert.Reference4Ideal.Gen.bitsLt_bf16_f32)
        (Host.dotGeneral Cert.Reference4Ideal.dot_S8192x1024_S1024x2048_S8192x2048_1_0_0_1_n_n none
          (extf .f32 ob Cert.Reference4Ideal.Gen.bitsLt_bf16_f32) (extf .f32 wb Cert.Reference4Ideal.Gen.bitsLt_bf16_f32))))
    (extf .f32 wo Cert.Reference4Ideal.Gen.bitsLt_bf16_f32))

/-- Where each window's block sits at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

/-- What a point stores, at an index of its block, is the reference's array where that index sits. -/
theorem point (c : Dev nD) (t : Fin cfg0.N) (y) :
    k0_pay1 (iblk m c 2 t) (iblk m c 0 t) (iblk m c 5 t) (iblk m c 3 t) (iblk m c 1 t) (iblk m c 6 t) (iblk m c 4 t)
        (iblk m c 7 t) y
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 8).blk t).view.emb y) := by
  pointwise [k0_pay1, merged]
  blk_point [iblk, V, idx t]

/-- So the result array after the run is the reference's. -/
theorem final (c : Dev nD) : (dats m 0 c).arrAt 8 (cfgs 0).N
    = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]; frame_out
  exact point m c t y

end Cert.Merge

end
-- ==== Proof.MergeClaim.lean ====
/- The claim about the merge: the kernel's run leaves the array `Cert.Merge.final` names, the reference's run the same. -/
module

public import proofs.«01_k».proof.Defs
public import proofs.«01_k».proof.Proof.Merge
public import proofs.«01_k».proof.Proof.Gen.Reference4Ideal.Run
public import Idealize.ShloMosaic.Lib.Claim

@[expose] public section

set_option maxRecDepth 16384

noncomputable section

open Idealize.ShloMosaic Idealize.ShloMosaic.TcCoe Idealize.SL.Sem

namespace Cert.Merge

theorem algebraic : Cert.algebraic_Kernel4Ideal_Reference4Ideal := by
  pair_intro
  · run_from Cert.Kernel4Ideal.Gen.run_main m g
  · run_from Cert.Reference4Ideal.Value.run m' g'
    exact (final m c).symm

end Cert.Merge

end
-- ==== Proof.SampleFfn.lean ====
/-
  The feed-forward half-step at the sample's shapes: one row tile of 256 rows by 11 column tiles of the hidden axis. The first point normalises the rows into
  a scratch that the other ten read; each point adds to the output block the products of its 512 hidden columns, and the last
  normalises `x + 1/2 sum` once more. The hidden axis is padded from 5504 to 5632 by zeros, whose products add nothing, so the sum
  over the tiles is the reference's contraction.
-/
module

public import proofs.«01_k».proof.Proof.Gen.Kernel7Ideal.Frame
public import proofs.«01_k».proof.Proof.Gen.Reference7Ideal
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference's arrays -/

namespace Cert.SampleFfn

section Arrays

open Cert.Reference7Ideal Cert.Reference7Ideal.Gen

/-- The normalised rows: `x * rsqrt (mean (x * x) + eps) * g`. -/
def normed (X : FVec Ideal S256x2048 .f32) (G : FVec Ideal S1x2048 .f32) : FVec Ideal S256x2048 .f32 :=
  mulf (mulf X (broadcastInDim S256x2048 ![0, 1] bcast_S256x1_S256x2048_0_1 (Host.rsqrt (addf (Host.divf
    (broadcastInDim S256x1 ![0] bcast_S256_S256x1_0 (Host.reduceAdd (mulf X X) (constant S_ .f32 0x00000000#32) reducesTo_S256x2048_S256_d1 h_S_))
    (broadcastInDim S256x1 ![] bcast_S_S256x1 (constant S_ .f32 0x45000000#32)))
    (broadcastInDim S256x1 ![] bcast_S_S256x1 (constant S_ .f32 0x358637BD#32))))))
    (broadcastInDim S256x2048 ![0, 1] bcast_S1x2048_S256x2048_0_1 G)

/-- The hidden rows: `silu (n @ w_gate) * (n @ w_up)` of the normalised rows `n`. -/
def hidden (N : FVec Ideal S256x2048 .f32) (Wg Wu : FVec Ideal S2048x5504 .f32) : FVec Ideal S256x5504 .f32 :=
  mulf (mulf (Host.dotGeneral dot_S256x2048_S2048x5504_S256x5504_1_0_0_1_n_n none N Wg)
    (Host.divf (broadcastInDim S256x5504 ![] bcast_S_S256x5504 (constant S_ .f32 0x3F800000#32))
      (addf (broadcastInDim S256x5504 ![] bcast_S_S256x5504 (constant S_ .f32 0x3F800000#32))
        (Host.exp (Host.negf (Host.dotGeneral dot_S256x2048_S2048x5504_S256x5504_1_0_0_1_n_n none N Wg))))))
    (Host.dotGeneral dot_S256x2048_S2048x5504_S256x5504_1_0_0_1_n_n none N Wu)

/-- The half-step: `x + 1/2 (hidden @ w_down)`. -/
def stepped (X : FVec Ideal S256x2048 .f32) (H : FVec Ideal S256x5504 .f32) (Wd : FVec Ideal S5504x2048 .f32) : FVec Ideal S256x2048 .f32 :=
  addf X (mulf (broadcastInDim S256x2048 ![] bcast_S_S256x2048 (constant S_ .f32 0x3F000000#32))
    (Host.dotGeneral dot_S256x5504_S5504x2048_S256x2048_1_0_0_1_n_n none H Wd))

theorem normed_at (X : FVec Ideal S256x2048 .f32) (G : FVec Ideal S1x2048 .f32) (r : Fin 256) (k : Fin 2048) :
    normed X G (ix2 r k)
      = X (ix2 r k) * Ideal.rsqrt (Ideal.div (∑ x : Fin 2048, X (ix2 r x) * X (ix2 r x)) (Ideal.ofBits .f32 1157627904#32)
          + Ideal.ofBits .f32 897988541#32) * G (ix2 0 k) := by
  pointwise [normed]

theorem hidden_at (N : FVec Ideal S256x2048 .f32) (Wg Wu : FVec Ideal S2048x5504 .f32) (r : Fin 256) (k : Fin 5504) :
    hidden N Wg Wu (ix2 r k)
      = (∑ x : Fin 2048, N (ix2 r x) * Wg (ix2 x k)) * Ideal.logistic (∑ x : Fin 2048, N (ix2 r x) * Wg (ix2 x k))
          * ∑ x : Fin 2048, N (ix2 r x) * Wu (ix2 x k) := by
  pointwise [hidden]
  rfl

theorem stepped_at (X : FVec Ideal S256x2048 .f32) (H : FVec Ideal S256x5504 .f32) (Wd : FVec Ideal S5504x2048 .f32)
    (r : Fin 256) (k : Fin 2048) :
    stepped X H Wd (ix2 r k)
      = X (ix2 r k) + Ideal.ofBits .f32 1056964608#32 * ∑ l : Fin 5504, H (ix2 r l) * Wd (ix2 l k) := by
  pointwise [stepped]

end Arrays

/-! ## The kernel's points -/

open Cert.Kernel7Ideal Cert.Kernel7Ideal.Gen

theorem zero_at (r : Fin 256) (k : Fin 2048) : k0_pay2 (F := Ideal) (ix2 r k) = 0 := by
  pointwise [k0_pay2]

/-- One column tile adds to a row the products of its 512 hidden columns with its 512 rows of the down projection. -/
theorem tile_at (h : FVec Ideal S256x2048 .bf16) (wg wu : FVec Ideal S2048x512 .bf16) (acc : FVec Ideal S256x2048 .f32)
    (wd : FVec Ideal S512x2048 .bf16) (r : Fin 256) (k : Fin 2048) :
    k0_pay3 (F := Ideal) h wg wu acc wd (ix2 r k)
      = acc (ix2 r k) + ∑ x : Fin 512, ((∑ j : Fin 2048, h (ix2 r j) * wg (ix2 j x))
          * Ideal.logistic (∑ j : Fin 2048, h (ix2 r j) * wg (ix2 j x)) * ∑ j : Fin 2048, h (ix2 r j) * wu (ix2 j x)) * wd (ix2 x k) := by
  pointwise [k0_pay3]

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] :=
  (by decide +kernel : ∀ t : Fin grid0.N, _)

/-- The arguments, at their shapes. -/
abbrev rows (c : Dev nD) : FVec Ideal S256x2048 .f32 := m ((c : Thread nD τ).loc main_arg0)
abbrev gain (c : Dev nD) : FVec Ideal S1x2048 .f32 := m ((c : Thread nD τ).loc main_arg1)
abbrev gate (c : Dev nD) : FVec Ideal S2048x5504 .f32 := m ((c : Thread nD τ).loc main_arg2)
abbrev up (c : Dev nD) : FVec Ideal S2048x5504 .f32 := m ((c : Thread nD τ).loc main_arg3)
abbrev down (c : Dev nD) : FVec Ideal S5504x2048 .f32 := m ((c : Thread nD τ).loc main_arg4)
abbrev gain' (c : Dev nD) : FVec Ideal S1x2048 .f32 := m ((c : Thread nD τ).loc main_arg5)

/-- The integer zero the weights are padded with, as a float. -/
theorem padding : (FloatOps.sitofp .f32 (0#32) : Ideal .f32) = 0 := by
  show (((0#32 : BitVec 32).toInt : ℝ) : EReal) = 0
  simp

/-- The gate's weights as the kernel reads them: 128 columns of zeros after the 5504. -/
theorem gate_pad (c : Dev nD) (k : Fin 2048) (l : Fin 5632) : (V m c main_v1 : FVec Ideal S2048x5632 .bf16) (ix2 k l)
    = if h : l.val < 5504 then gate m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem up_pad (c : Dev nD) (k : Fin 2048) (l : Fin 5632) : (V m c main_v3 : FVec Ideal S2048x5632 .bf16) (ix2 k l)
    = if h : l.val < 5504 then up m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem down_pad (c : Dev nD) (l : Fin 5632) (k : Fin 2048) : (V m c main_v5 : FVec Ideal S5632x2048 .bf16) (ix2 l k)
    = if h : l.val < 5504 then down m c (ix2 ⟨l.val, h⟩ k) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem tile_lt (t : Fin cfg0.N) (r : Fin 256) : t.val / 11 * 256 + r.val < 256 := by
  have : t.val < 11 := t.isLt
  omega

/-- The scratch holds, at every column tile, the normalised rows of the row tile: the first column tile writes them. -/
theorem held (c : Dev nD) (t : Fin cfg0.N) (r : Fin 256) (k : Fin 2048) :
    (outsAt0 m c t.val t.isLt).2 (ix2 r k) = normed (rows m c) (gain m c) (ix2 ⟨t.val / 11 * 256 + r.val, tile_lt t r⟩ k) := by
  have h := Pipeline.eq_of_write_hold_apply (fun n h => (outsAt0 m c n h).2) 11
    (fun t i => k0_pay1 (F := Ideal) (iblk m c 0 t) (iblk m c 1 t) i)
    (fun t h0 i => by
      have h1 : ¬t.val % 11 = 10 := by omega
      show (outsAt0 m c t.val t.isLt).2 i = _
      rw [outsAt0_A m c t h0 h1]; frame_out)
    (fun t h0 i => by
      show (outsAt0 m c t.val t.isLt).2 i = _
      by_cases h1 : t.val % 11 = 10
      · rw [outsAt0_C m c t h0 h1]; rfl
      · rw [outsAt0_B m c t h0 h1]; rfl) t (ix2 r k)
  refine h.trans ?_
  rw [normed_at]
  pointwise [k0_pay1]
  have h2 : 11 * (t.val / 11) / 11 = t.val / 11 := by omega
  blk_point [iblk, V, idx ⟨11 * (t.val / 11), Pipeline.run_start_lt t⟩, h2]

/-- The product of hidden column `l` with row `l` of the down projection; nothing at the padding. -/
def prod (c : Dev nD) (r : Fin 256) (k : Fin 2048) (l : Fin 5632) : EReal :=
  if h : l.val < 5504 then hidden (normed (rows m c) (gain m c)) (gate m c) (up m c) (ix2 r ⟨l.val, h⟩) * down m c (ix2 ⟨l.val, h⟩ k) else 0

theorem lane_lt (t : Fin cfg0.N) (x : Fin 512) : t.val % 11 * 512 + x.val < 5632 := by omega

theorem gate_blk (c : Dev nD) (t : Fin cfg0.N) (j : Fin 2048) (x : Fin 512) (hl : t.val % 11 * 512 + x.val < 5504) :
    (iblk m c 2 t : FVec Ideal S2048x512 .bf16) (ix2 j x) = gate m c (ix2 j ⟨t.val % 11 * 512 + x.val, hl⟩) := by
  have h : (iblk m c 2 t : FVec Ideal S2048x512 .bf16) (ix2 j x)
      = (V m c main_v1 : FVec Ideal S2048x5632 .bf16) (ix2 j ⟨t.val % 11 * 512 + x.val, lane_lt t x⟩) := by blk_ext [iblk, idx t]
  rw [h, gate_pad, dif_pos hl]

theorem up_blk (c : Dev nD) (t : Fin cfg0.N) (j : Fin 2048) (x : Fin 512) (hl : t.val % 11 * 512 + x.val < 5504) :
    (iblk m c 3 t : FVec Ideal S2048x512 .bf16) (ix2 j x) = up m c (ix2 j ⟨t.val % 11 * 512 + x.val, hl⟩) := by
  have h : (iblk m c 3 t : FVec Ideal S2048x512 .bf16) (ix2 j x)
      = (V m c main_v3 : FVec Ideal S2048x5632 .bf16) (ix2 j ⟨t.val % 11 * 512 + x.val, lane_lt t x⟩) := by blk_ext [iblk, idx t]
  rw [h, up_pad, dif_pos hl]

theorem down_blk (c : Dev nD) (t : Fin cfg0.N) (x : Fin 512) (k : Fin 2048) :
    (iblk m c 4 t : FVec Ideal S512x2048 .bf16) (ix2 x k) = (V m c main_v5 : FVec Ideal S5632x2048 .bf16) (ix2 ⟨t.val % 11 * 512 + x.val, lane_lt t x⟩ k) := by
  blk_ext [iblk, idx t]

/-- What column tile `t` adds at row `r`, column `k` of its row tile. -/
def term (c : Dev nD) (t : Fin cfg0.N) (y : S256x2048.Idx) : EReal :=
  ∑ x : Fin 512, prod m c ⟨t.val / 11 * 256 + (y 0).val, tile_lt t (y 0)⟩ (y 1) ⟨t.val % 11 * 512 + x.val, lane_lt t x⟩

/-- A column tile over the normalised rows adds its term. -/
theorem tile_eq (c : Dev nD) (t : Fin cfg0.N) (h : FVec Ideal S256x2048 .bf16)
    (hh : ∀ (r : Fin 256) (k : Fin 2048), h (ix2 r k) = normed (rows m c) (gain m c) (ix2 ⟨t.val / 11 * 256 + r.val, tile_lt t r⟩ k))
    (acc : FVec Ideal S256x2048 .f32) (y : S256x2048.Idx) :
    k0_pay3 (F := Ideal) h (iblk m c 2 t) (iblk m c 3 t) acc (iblk m c 4 t) y = acc y + term m c t y := by
  obtain ⟨r, k, rfl⟩ : ∃ (r : Fin 256) (k : Fin 2048), y = ix2 r k := ⟨y 0, y 1, by funext i; fin_cases i <;> rfl⟩
  refine (tile_at h _ _ acc _ r k).trans (congrArg (acc (ix2 r k) + ·) ?_)
  refine Fin.sum_fin_congr fun x => ?_
  show _ = prod m c ⟨t.val / 11 * 256 + r.val, tile_lt t r⟩ k ⟨t.val % 11 * 512 + x.val, lane_lt t x⟩
  rw [down_blk, down_pad]
  unfold prod
  split
  · rename_i hl
    rw [hidden_at]
    simp only [gate_blk m c t _ x hl, up_blk m c t _ x hl, hh]
  · exact mul_zero _

/-- A row's sums over the column tiles done so far: the output block before the last point's normalisation. -/
def acc (c : Dev nD) (n : ℕ) (h : n < cfg0.N) : FVec Ideal S256x2048 .f32 :=
  if n % 11 = 10 then
    k0_pay3 (F := Ideal) (outsAt0 m c n h).2 (iblk m c 2 ⟨n, h⟩) (iblk m c 3 ⟨n, h⟩)
      (outsAt0 m c (n - 1) (Nat.lt_of_le_of_lt (Nat.sub_le _ _) h)).1 (iblk m c 4 ⟨n, h⟩)
  else (outsAt0 m c n h).1

theorem acc_first (c : Dev nD) (t : Fin cfg0.N) (h0 : t.val % 11 = 0) (y : S256x2048.Idx) :
    acc m c t.val t.isLt y = 0 + term m c t y := by
  have h1 : ¬t.val % 11 = 10 := by omega
  have hn : ∀ (r : Fin 256) (k : Fin 2048), k0_pay1 (F := Ideal) (iblk m c 0 t) (iblk m c 1 t) (ix2 r k)
      = normed (rows m c) (gain m c) (ix2 ⟨t.val / 11 * 256 + r.val, tile_lt t r⟩ k) := fun r k => by
    rw [← held m c t r k, outsAt0_A m c t h0 h1]; frame_out
  unfold acc
  rw [if_neg h1, outsAt0_A m c t h0 h1]; frame_out
  refine (tile_eq m c t _ hn _ y).trans (congrArg (· + term m c t y) ?_)
  obtain ⟨r, k, rfl⟩ : ∃ (r : Fin 256) (k : Fin 2048), y = ix2 r k := ⟨y 0, y 1, by funext i; fin_cases i <;> rfl⟩
  exact zero_at r k

/-- Past the first column tile of a run the scratch is what the point before left. -/
theorem scratch_step (c : Dev nD) (t : Fin cfg0.N) (h0 : ¬t.val % 11 = 0) : (outsAt0 m c t.val t.isLt).2
    = (outsAt0 m c (t.val - 1) (Nat.lt_of_le_of_lt (Nat.sub_le _ _) t.isLt)).2 := by
  by_cases h1 : t.val % 11 = 10
  · rw [outsAt0_C m c t h0 h1]; rfl
  · rw [outsAt0_B m c t h0 h1]; rfl

theorem acc_next (c : Dev nD) (t : Fin cfg0.N) (h0 : ¬t.val % 11 = 0) (y : S256x2048.Idx) :
    acc m c t.val t.isLt y = acc m c (t.val - 1) (Nat.lt_of_le_of_lt (Nat.sub_le _ _) t.isLt) y + term m c t y := by
  have hp : acc m c (t.val - 1) (Nat.lt_of_le_of_lt (Nat.sub_le _ _) t.isLt)
      = (outsAt0 m c (t.val - 1) (Nat.lt_of_le_of_lt (Nat.sub_le _ _) t.isLt)).1 := by
    unfold acc
    rw [if_neg (by omega)]
  rw [hp]
  refine Eq.trans ?_ (tile_eq m c t _ (held m c t) _ y)
  unfold acc
  by_cases h1 : t.val % 11 = 10
  · rw [if_pos h1]
  · rw [if_neg h1, scratch_step m c t h0, outsAt0_B m c t h0 h1]; frame_out
    rw [read_unread_whole]

/-- At the last column tile the sums are the reference's product with the down projection. -/
theorem acc_last (c : Dev nD) (t : Fin cfg0.N) (h1 : t.val % 11 = 10) (r : Fin 256) (k : Fin 2048) :
    acc m c t.val t.isLt (ix2 r k) = ∑ l : Fin 5504,
      hidden (normed (rows m c) (gain m c)) (gate m c) (up m c) (ix2 ⟨t.val / 11 * 256 + r.val, tile_lt t r⟩ l) * down m c (ix2 l k) := by
  rw [Pipeline.eq_sum_fin_of_reset_step_apply_of_flush (acc m c) 11 (fun _ => (0 : EReal)) (term m c) (acc_first m c) (acc_next m c) t h1
    (ix2 r k)]
  rw [zero_add]
  have hsum : ∑ s : Fin 11, term m c ⟨11 * (t.val / 11) + s.val, Pipeline.run_point_lt_of_flush t h1 s⟩ (ix2 r k)
      = ∑ l : Fin 5632, prod m c ⟨t.val / 11 * 256 + r.val, tile_lt t r⟩ k l := by
    refine Fin.sum_mul_add_congr fun s x hl => ?_
    have hq : (11 * (t.val / 11) + s.val) / 11 = t.val / 11 := by omega
    have hm : (11 * (t.val / 11) + s.val) % 11 = s.val := by omega
    congr 1
    · exact Fin.ext (by show (11 * (t.val / 11) + s.val) / 11 * 256 + r.val = t.val / 11 * 256 + r.val; rw [hq])
    · exact Fin.ext (by show (11 * (t.val / 11) + s.val) % 11 * 512 + x.val = s.val * 512 + x.val; rw [hm])
  refine hsum.trans ((Fin.sum_univ_add (a := 5504) (b := 128) _).trans ?_)
  have hz : ∑ i : Fin 128, prod m c ⟨t.val / 11 * 256 + r.val, tile_lt t r⟩ k (Fin.natAdd 5504 i) = 0 :=
    Finset.sum_eq_zero fun i _ => dif_neg (by simp)
  rw [hz, add_zero]
  refine Fin.sum_fin_congr fun l => ?_
  unfold prod
  exact dif_pos l.isLt

/-- The reference's array: the half-step's rows normalised again. -/
abbrev fed (c : Dev nD) : FVec Ideal S256x2048 .f32 :=
  normed (stepped (rows m c) (hidden (normed (rows m c) (gain m c)) (gate m c) (up m c)) (down m c)) (gain' m c)

/-- What the last column tile's point stores is the reference's array at its rows. -/
theorem point (c : Dev nD) (t : Fin cfg0.N) (h1 : t.val % 11 = 10) (r : Fin 256) (k : Fin 2048) :
    k0_pay4 (F := Ideal) (iblk m c 0 t) (acc m c t.val t.isLt) (iblk m c 5 t) (ix2 r k)
      = fed m c (ix2 ⟨t.val / 11 * 256 + r.val, tile_lt t r⟩ k) := by
  unfold fed
  rw [normed_at]
  simp only [stepped_at, ← acc_last m c t h1]
  pointwise [k0_pay4]
  blk_point [iblk, V, idx t]

theorem final (c : Dev nD) : (dats m 0 c).arrAt 6 (cfgs 0).N = fed m c := by
  refine (dats m 0 c).arrAt_eq_of_covers 6 _ (by decide +kernel) fun t hf y => ?_
  have h1 : t.val % 11 = 10 := (flush0_6 t).mp hf
  have h0 : ¬t.val % 11 = 0 := by omega
  blk_simp
  rw [after0_6]
  obtain ⟨r, k, rfl⟩ : ∃ (r : Fin 256) (k : Fin 2048), y = ix2 r k := ⟨y 0, y 1, by funext i; fin_cases i <;> rfl⟩
  have hs : (outsAt0 m c t.val t.isLt).1 = k0_pay4 (F := Ideal) (iblk m c 0 t) (acc m c t.val t.isLt) (iblk m c 5 t) := by
    unfold acc
    rw [if_pos h1, scratch_step m c t h0, outsAt0_C m c t h0 h1]; frame_out
    rw [read_unread_whole]
  rw [hs]
  refine (point m c t h1 r k).trans ?_
  blk_ext [idx t]

end Cert.SampleFfn

end
-- ==== Proof.SampleProject.lean ====
/-
  The projections at the sample's shapes: one row tile, the 256 rows of the sample, by 4 column tiles. The first point normalises its rows into a scratch that the other three
  read; every point multiplies them by one column tile of each of the five sections of the weights.
-/
module

public import proofs.«01_k».proof.Proof.Gen.Kernel6Ideal.Frame
public import proofs.«01_k».proof.Proof.Gen.Reference6Ideal
public import proofs.«01_k».proof.Proof.SampleFfn

@[expose] public section

set_option maxRecDepth 16384

noncomputable section

open Idealize.ShloMosaic Idealize.ShloMosaic.TcCoe Idealize.SL.Sem
open Idealize.ShloMosaic.Pipeline (Dat)

namespace Cert.SampleProject

/-! ## The reference's arrays -/

section Arrays

open Cert.Reference6Ideal Cert.Reference6Ideal.Gen

/-- All five sections side by side: the normalised rows times the weights. -/
def sections (N : FVec Ideal S256x2048 .f32) (W : FVec Ideal S2048x10240 .f32) : FVec Ideal S256x10240 .f32 :=
  Host.dotGeneral dot_S256x2048_S2048x10240_S256x10240_1_0_0_1_n_n none N W

/-- The logistic function as the reference spells it. -/
def gated (P : FVec Ideal S256x2048 .f32) : FVec Ideal S256x2048 .f32 :=
  Host.divf (broadcastInDim S256x2048 ![] bcast_S_S256x2048 (constant S_ .f32 0x3F800000#32))
    (addf (broadcastInDim S256x2048 ![] bcast_S_S256x2048 (constant S_ .f32 0x3F800000#32)) (Host.exp (Host.negf P)))

theorem sections_at (N : FVec Ideal S256x2048 .f32) (W : FVec Ideal S2048x10240 .f32) (r : Fin 256) (k : Fin 10240) :
    sections N W (ix2 r k) = ∑ x : Fin 2048, N (ix2 r x) * W (ix2 x k) := by
  pointwise [sections]

theorem gated_at (P : FVec Ideal S256x2048 .f32) (i : S256x2048.Idx) : gated P i = Ideal.logistic (P i) := by
  pointwise [gated]
  rfl

abbrev query (P : FVec Ideal S256x10240 .f32) : FVec Ideal S256x2048 .bf16 :=
  truncf .bf16 (mulf (extractStridedSlice S256x2048 ![0, 0] P slices_S256x10240_S256x2048_0_0)
    (broadcastInDim S256x2048 ![] bcast_S_S256x2048 (constant S_ .f32 0x3E000000#32))) bitsLt_bf16_f32
abbrev key (P : FVec Ideal S256x10240 .f32) : FVec Ideal S256x2048 .f32 :=
  extractStridedSlice S256x2048 ![0, 2048] P slices_S256x10240_S256x2048_0_2048
abbrev value (P : FVec Ideal S256x10240 .f32) : FVec Ideal S256x2048 .f32 :=
  extractStridedSlice S256x2048 ![0, 4096] P slices_S256x10240_S256x2048_0_4096
abbrev gateA (P : FVec Ideal S256x10240 .f32) : FVec Ideal S256x2048 .bf16 :=
  truncf .bf16 (gated (extractStridedSlice S256x2048 ![0, 6144] P slices_S256x10240_S256x2048_0_6144)) bitsLt_bf16_f32
abbrev gateB (P : FVec Ideal S256x10240 .f32) : FVec Ideal S256x2048 .bf16 :=
  truncf .bf16 (gated (extractStridedSlice S256x2048 ![0, 8192] P slices_S256x10240_S256x2048_0_8192)) bitsLt_bf16_f32
abbrev narrow (P : FVec Ideal S256x2048 .f32) : FVec Ideal S256x2048 .bf16 := truncf .bf16 P bitsLt_bf16_f32

end Arrays

/-! ## The kernel's points -/

open Cert.Kernel6Ideal Cert.Kernel6Ideal.Gen

variable (m : (ℓ : Loc nD τ sig) → Buf (Elt Ideal) ℓ)

theorem idx : ∀ t : Fin cfg0.N, win0_0.index t = ![t.val / 4, 0] ∧ win0_1.index t = ![0, 0] ∧ win0_2.index t = ![0, t.val % 4]
    ∧ win0_3.index t = ![0, 4 + t.val % 4] ∧ win0_4.index t = ![0, 8 + t.val % 4] ∧ win0_5.index t = ![0, 12 + t.val % 4]
    ∧ win0_6.index t = ![0, 16 + t.val % 4] ∧ win0_7.index t = ![t.val / 4, t.val % 4] ∧ win0_8.index t = ![t.val / 4, t.val % 4]
    ∧ win0_9.index t = ![t.val / 4, t.val % 4] ∧ win0_10.index t = ![t.val / 4, t.val % 4] ∧ win0_11.index t = ![t.val / 4, t.val % 4]
    ∧ win0_12.index t = ![t.val / 4, t.val % 4] ∧ win0_13.index t = ![t.val / 4, t.val % 4] :=
  (by decide +kernel : ∀ t : Fin grid0.N, _)

/-- The reference's normalised rows and sections, over the arguments. -/
abbrev rows (c : Dev nD) : FVec Ideal S256x2048 .f32 :=
  Cert.SampleFfn.normed (m ((c : Thread nD τ).loc main_arg0)) (m ((c : Thread nD τ).loc main_arg1))
abbrev all (c : Dev nD) : FVec Ideal Cert.Reference6Ideal.S256x10240 .f32 := sections (rows m c) (m ((c : Thread nD τ).loc main_arg2))

theorem tile_lt (t : Fin cfg0.N) (r : Fin 256) : t.val / 4 * 256 + r.val < 256 := by
  have : t.val < 4 := t.isLt
  omega

/-- The scratch after a point. -/
abbrev scratch (c : Dev nD) (t : Fin cfg0.N) : FVec Ideal S256x2048 .bf16 := (outsAt0 m c t.val t.isLt).2.2.2.2.2.2.2

theorem scratch_first (c : Dev nD) (t : Fin cfg0.N) (h0 : t.val % 4 = 0) :
    scratch m c t = k0_pay3 (F := Ideal) (iblk m c 0 t) (iblk m c 1 t) := by
  unfold scratch
  funext i
  rw [outsAt0_A m c t h0]; frame_out

theorem scratch_next (c : Dev nD) (t : Fin cfg0.N) (h0 : ¬t.val % 4 = 0) :
    scratch m c t = (outsAt0 m c (t.val - 1) (Nat.lt_of_le_of_lt (Nat.sub_le _ _) t.isLt)).2.2.2.2.2.2.2 := by
  unfold scratch
  rw [outsAt0_B m c t h0]; rfl

/-- The scratch holds, at every column tile, the normalised rows of the row tile. -/
theorem held (c : Dev nD) (t : Fin cfg0.N) (r : Fin 256) (k : Fin 2048) :
    scratch m c t (ix2 r k) = rows m c (ix2 ⟨t.val / 4 * 256 + r.val, tile_lt t r⟩ k) := by
  have h := Pipeline.eq_of_write_hold_apply (fun n h => (outsAt0 m c n h).2.2.2.2.2.2.2) 4
    (fun t i => k0_pay3 (F := Ideal) (iblk m c 0 t) (iblk m c 1 t) i)
    (fun t h0 i => congrFun (scratch_first m c t h0) i) (fun t h0 i => congrFun (scratch_next m c t h0) i) t (ix2 r k)
  refine h.trans ?_
  unfold rows
  rw [Cert.SampleFfn.normed_at]
  pointwise [k0_pay3]
  have h2 : 4 * (t.val / 4) / 4 = t.val / 4 := by omega
  blk_point [iblk, V, idx ⟨4 * (t.val / 4), Pipeline.run_start_lt t⟩, h2]

theorem query_stored (c : Dev nD) (t : Fin cfg0.N) : (outsAt0 m c t.val t.isLt).1 = k0_pay4 (scratch m c t) (iblk m c 2 t) := by
  funext i
  by_cases h0 : t.val % 4 = 0
  · rw [scratch_first m c t h0, outsAt0_A m c t h0]; frame_out
  · rw [scratch_next m c t h0, outsAt0_B m c t h0]; frame_out
    rw [read_unread_whole]

theorem query_final (c : Dev nD) : (dats m 0 c).arrAt 7 (cfgs 0).N = query (all m c) := by
  refine (dats m 0 c).arrAt_eq_of_covers 7 _ (by decide +kernel) fun t _ y => ?_
  blk_simp
  rw [after0_7, query_stored]
  obtain ⟨r, k, rfl⟩ : ∃ (r : Fin 256) (k : Fin 512), y = ix2 r k := ⟨y 0, y 1, by funext i; fin_cases i <;> rfl⟩
  pointwise [k0_pay4, query, key, value, narrow, gateA, gateB, gated_at, sections_at, held]
  blk_point [iblk, V, idx t]

theorem key_stored (c : Dev nD) (t : Fin cfg0.N) : (outsAt0 m c t.val t.isLt).2.1 = k0_pay5 (scratch m c t) (iblk m c 3 t) := by
  funext i
  by_cases h0 : t.val % 4 = 0
  · rw [scratch_first m c t h0, outsAt0_A m c t h0]; frame_out
  · rw [scratch_next m c t h0, outsAt0_B m c t h0]; frame_out
    rw [read_unread_whole]

theorem key_final (c : Dev nD) : (dats m 0 c).arrAt 8 (cfgs 0).N = key (all m c) := by
  refine (dats m 0 c).arrAt_eq_of_covers 8 _ (by decide +kernel) fun t _ y => ?_
  blk_simp
  rw [after0_8, key_stored]
  obtain ⟨r, k, rfl⟩ : ∃ (r : Fin 256) (k : Fin 512), y = ix2 r k := ⟨y 0, y 1, by funext i; fin_cases i <;> rfl⟩
  pointwise [k0_pay5, query, key, value, narrow, gateA, gateB, gated_at, sections_at, held]
  blk_point [iblk, V, idx t]

theorem value_stored (c : Dev nD) (t : Fin cfg0.N) : (outsAt0 m c t.val t.isLt).2.2.1 = k0_pay7 (scratch m c t) (iblk m c 4 t) := by
  funext i
  by_cases h0 : t.val % 4 = 0
  · rw [scratch_first m c t h0, outsAt0_A m c t h0]; frame_out
  · rw [scratch_next m c t h0, outsAt0_B m c t h0]; frame_out
    rw [read_unread_whole]

theorem value_final (c : Dev nD) : (dats m 0 c).arrAt 9 (cfgs 0).N = value (all m c) := by
  refine (dats m 0 c).arrAt_eq_of_covers 9 _ (by decide +kernel) fun t _ y => ?_
  blk_simp
  rw [after0_9, value_stored]
  obtain ⟨r, k, rfl⟩ : ∃ (r : Fin 256) (k : Fin 512), y = ix2 r k := ⟨y 0, y 1, by funext i; fin_cases i <;> rfl⟩
  pointwise [k0_pay7, query, key, value, narrow, gateA, gateB, gated_at, sections_at, held]
  blk_point [iblk, V, idx t]

theorem key16_stored (c : Dev nD) (t : Fin cfg0.N) : (outsAt0 m c t.val t.isLt).2.2.2.1 = k0_pay6 (scratch m c t) (iblk m c 3 t) := by
  funext i
  by_cases h0 : t.val % 4 = 0
  · rw [scratch_first m c t h0, outsAt0_A m c t h0]; frame_out
  · rw [scratch_next m c t h0, outsAt0_B m c t h0]; frame_out
    rw [read_unread_whole]

theorem key16_final (c : Dev nD) : (dats m 0 c).arrAt 10 (cfgs 0).N = narrow (key (all m c)) := by
  refine (dats m 0 c).arrAt_eq_of_covers 10 _ (by decide +kernel) fun t _ y => ?_
  blk_simp
  rw [after0_10, key16_stored]
  obtain ⟨r, k, rfl⟩ : ∃ (r : Fin 256) (k : Fin 512), y = ix2 r k := ⟨y 0, y 1, by funext i; fin_cases i <;> rfl⟩
  pointwise [k0_pay6, k0_pay5, query, key, value, narrow, gateA, gateB, gated_at, sections_at, held]
  blk_point [iblk, V, idx t]

theorem value16_stored (c : Dev nD) (t : Fin cfg0.N) : (outsAt0 m c t.val t.isLt).2.2.2.2.1 = k0_pay8 (scratch m c t) (iblk m c 4 t) := by
  funext i
  by_cases h0 : t.val % 4 = 0
  · rw [scratch_first m c t h0, outsAt0_A m c t h0]; frame_out
  · rw [scratch_next m c t h0, outsAt0_B m c t h0]; frame_out
    rw [read_unread_whole]

theorem value16_final (c : Dev nD) : (dats m 0 c).arrAt 11 (cfgs 0).N = narrow (value (all m c)) := by
  refine (dats m 0 c).arrAt_eq_of_covers 11 _ (by decide +kernel) fun t _ y => ?_
  blk_simp
  rw [after0_11, value16_stored]
  obtain ⟨r, k, rfl⟩ : ∃ (r : Fin 256) (k : Fin 512), y = ix2 r k := ⟨y 0, y 1, by funext i; fin_cases i <;> rfl⟩
  pointwise [k0_pay8, k0_pay7, query, key, value, narrow, gateA, gateB, gated_at, sections_at, held]
  blk_point [iblk, V, idx t]

theorem gateA_stored (c : Dev nD) (t : Fin cfg0.N) : (outsAt0 m c t.val t.isLt).2.2.2.2.2.1 = k0_pay1 (scratch m c t) (k0_pay9 (iblk m c 5 t)) (constant S256x512 .f32 0x00000000#32) := by
  funext i
  by_cases h0 : t.val % 4 = 0
  · rw [scratch_first m c t h0, outsAt0_A m c t h0]; frame_out
  · rw [scratch_next m c t h0, outsAt0_B m c t h0]; frame_out
    rw [read_unread_whole]

theorem gateA_final (c : Dev nD) : (dats m 0 c).arrAt 12 (cfgs 0).N = gateA (all m c) := by
  refine (dats m 0 c).arrAt_eq_of_covers 12 _ (by decide +kernel) fun t _ y => ?_
  blk_simp
  rw [after0_12, gateA_stored]
  obtain ⟨r, k, rfl⟩ : ∃ (r : Fin 256) (k : Fin 512), y = ix2 r k := ⟨y 0, y 1, by funext i; fin_cases i <;> rfl⟩
  pointwise [k0_pay1, k0_pay9, query, key, value, narrow, gateA, gateB, gated_at, sections_at, held]
  blk_point [iblk, V, idx t]

theorem gateB_stored (c : Dev nD) (t : Fin cfg0.N) : (outsAt0 m c t.val t.isLt).2.2.2.2.2.2.1 = k0_pay2 (scratch m c t) (iblk m c 6 t) := by
  funext i
  by_cases h0 : t.val % 4 = 0
  · rw [scratch_first m c t h0, outsAt0_A m c t h0]; frame_out
  · rw [scratch_next m c t h0, outsAt0_B m c t h0]; frame_out
    rw [read_unread_whole]

theorem gateB_final (c : Dev nD) : (dats m 0 c).arrAt 13 (cfgs 0).N = gateB (all m c) := by
  refine (dats m 0 c).arrAt_eq_of_covers 13 _ (by decide +kernel) fun t _ y => ?_
  blk_simp
  rw [after0_13, gateB_stored]
  obtain ⟨r, k, rfl⟩ : ∃ (r : Fin 256) (k : Fin 512), y = ix2 r k := ⟨y 0, y 1, by funext i; fin_cases i <;> rfl⟩
  pointwise [k0_pay2, query, key, value, narrow, gateA, gateB, gated_at, sections_at, held]
  blk_point [iblk, V, idx t]

end Cert.SampleProject

end
-- ==== Proof.SampleProjectClaim.lean ====
/- The claim about the projections at the sample's shapes: the kernel's run leaves the array the `final` theorems name, the reference's run the same. -/
module

public import proofs.«01_k».proof.Defs
public import proofs.«01_k».proof.Proof.SampleProject
public import proofs.«01_k».proof.Proof.Gen.Reference6Ideal.Run
public import Idealize.ShloMosaic.Lib.Claim

@[expose] public section

set_option maxRecDepth 16384

noncomputable section

open Idealize.ShloMosaic Idealize.ShloMosaic.TcCoe Idealize.SL.Sem

namespace Cert.SampleProject

open Cert.Kernel6Ideal.Gen

set_option maxHeartbeats 4000000 in
theorem algebraic : Cert.algebraic_Kernel6Ideal_Reference6Ideal := by
  pair_intro
  · run_from Cert.Kernel6Ideal.Gen.run_main m g
  · run_from Cert.Reference6Ideal.Value.run m' g'
    · exact (query_final m c).symm
    · exact (key_final m c).symm
    · exact (value_final m c).symm
    · exact (key16_final m c).symm
    · exact (value16_final m c).symm
    · exact (gateA_final m c).symm
    · exact (gateB_final m c).symm

end Cert.SampleProject

end
-- ==== Proof.SampleFfnClaim.lean ====
/- The claim about the feed-forward half-step at the sample's shapes: the kernel's run leaves the array `Cert.SampleFfn.final` names, the reference's run the same. -/
module

public import proofs.«01_k».proof.Defs
public import proofs.«01_k».proof.Proof.SampleFfn
public import proofs.«01_k».proof.Proof.Gen.Reference7Ideal.Run
public import Idealize.ShloMosaic.Lib.Claim

@[expose] public section

set_option maxRecDepth 16384

noncomputable section

open Idealize.ShloMosaic Idealize.ShloMosaic.TcCoe Idealize.SL.Sem

namespace Cert.SampleFfn

open Cert.Kernel7Ideal.Gen

theorem algebraic : Cert.algebraic_Kernel7Ideal_Reference7Ideal := by
  pair_intro
  · run_from Cert.Kernel7Ideal.Gen.run_main m g
    exacts [V_main_arg2 m c, V_main_arg3 m c, V_main_arg4 m c]
  · run_from Cert.Reference7Ideal.Value.run m' g'
    obtain ⟨a0, a1, a2, a3, a4, a5⟩ := hagree c
    unfold Cert.Reference7Ideal.Value.res_main_v31
    rw [a0, a1, a2, a3, a4, a5]
    exact (final m c).symm

end Cert.SampleFfn

end
-- ==== Proof.SampleFirst.lean ====
/-
  The first feed-forward half-step at the sample's shapes, one row tile of 256 rows: the walk over the column tiles is that of the last half-step, but the last column tile's point
  stores `x + 1/2 sum` as it is. The reference's arrays are those of `Cert.SampleFfn`.
-/
module

public import proofs.«01_k».proof.Proof.Gen.Kernel8Ideal.Frame
public import proofs.«01_k».proof.Proof.SampleFfn
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleFirst

open Cert.SampleFfn (normed hidden stepped normed_at hidden_at stepped_at padding)

/-! ## The kernel's points -/

open Cert.Kernel8Ideal Cert.Kernel8Ideal.Gen

theorem zero_at (r : Fin 256) (k : Fin 2048) : k0_pay2 (F := Ideal) (ix2 r k) = 0 := by
  pointwise [k0_pay2]

/-- One column tile adds to a row the products of its 512 hidden columns with its 512 rows of the down projection. -/
theorem tile_at (h : FVec Ideal S256x2048 .bf16) (wg wu : FVec Ideal S2048x512 .bf16) (acc : FVec Ideal S256x2048 .f32)
    (wd : FVec Ideal S512x2048 .bf16) (r : Fin 256) (k : Fin 2048) :
    k0_pay3 (F := Ideal) h wg wu acc wd (ix2 r k)
      = acc (ix2 r k) + ∑ x : Fin 512, ((∑ j : Fin 2048, h (ix2 r j) * wg (ix2 j x))
          * Ideal.logistic (∑ j : Fin 2048, h (ix2 r j) * wg (ix2 j x)) * ∑ j : Fin 2048, h (ix2 r j) * wu (ix2 j x)) * wd (ix2 x k) := by
  pointwise [k0_pay3]

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0]
    ∧ win0_5.index t = ![t.val / 11, 0] :=
  (by decide +kernel : ∀ t : Fin grid0.N, _)

/-- The arguments, at their shapes. -/
abbrev rows (c : Dev nD) : FVec Ideal S256x2048 .f32 := m ((c : Thread nD τ).loc main_arg0)
abbrev gain (c : Dev nD) : FVec Ideal S1x2048 .f32 := m ((c : Thread nD τ).loc main_arg1)
abbrev gate (c : Dev nD) : FVec Ideal S2048x5504 .f32 := m ((c : Thread nD τ).loc main_arg2)
abbrev up (c : Dev nD) : FVec Ideal S2048x5504 .f32 := m ((c : Thread nD τ).loc main_arg3)
abbrev down (c : Dev nD) : FVec Ideal S5504x2048 .f32 := m ((c : Thread nD τ).loc main_arg4)

/-- The gate's weights as the kernel reads them: 128 columns of zeros after the 5504. -/
theorem gate_pad (c : Dev nD) (k : Fin 2048) (l : Fin 5632) : (V m c main_v1 : FVec Ideal S2048x5632 .bf16) (ix2 k l)
    = if h : l.val < 5504 then gate m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem up_pad (c : Dev nD) (k : Fin 2048) (l : Fin 5632) : (V m c main_v3 : FVec Ideal S2048x5632 .bf16) (ix2 k l)
    = if h : l.val < 5504 then up m c (ix2 k ⟨l.val, h⟩) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem down_pad (c : Dev nD) (l : Fin 5632) (k : Fin 2048) : (V m c main_v5 : FVec Ideal S5632x2048 .bf16) (ix2 l k)
    = if h : l.val < 5504 then down m c (ix2 ⟨l.val, h⟩ k) else 0 := by
  unfold V
  simp only [List.flatten_cons, List.flatten_nil, List.cons_append, List.nil_append, hostOps0, hostOps0_1, hostOps0_2, hostOps0_3, hostOps0_4,
    hostOps0_5, hostOps0_6]
  after_results_simp
  simp only [StableHlo.TRef.toBuf, StableHlo.TRef.ofBuf, cast_eq]
  pointwise
  rw [padding]

theorem tile_lt (t : Fin cfg0.N) (r : Fin 256) : t.val / 11 * 256 + r.val < 256 := by
  have : t.val < 11 := t.isLt
  omega

/-- The scratch holds, at every column tile, the normalised rows of the row tile: the first column tile writes them. -/
theorem held (c : Dev nD) (t : Fin cfg0.N) (r : Fin 256) (k : Fin 2048) :
    (outsAt0 m c t.val t.isLt).2 (ix2 r k) = normed (rows m c) (gain m c) (ix2 ⟨t.val / 11 * 256 + r.val, tile_lt t r⟩ k) := by
  have h := Pipeline.eq_of_write_hold_apply (fun n h => (outsAt0 m c n h).2) 11
    (fun t i => k0_pay1 (F := Ideal) (iblk m c 0 t) (iblk m c 1 t) i)
    (fun t h0 i => by
      have h1 : ¬t.val % 11 = 10 := by omega
      show (outsAt0 m c t.val t.isLt).2 i = _
      rw [outsAt0_A m c t h0 h1]; frame_out)
    (fun t h0 i => by
      show (outsAt0 m c t.val t.isLt).2 i = _
      by_cases h1 : t.val % 11 = 10
      · rw [outsAt0_C m c t h0 h1]; rfl
      · rw [outsAt0_B m c t h0 h1]; rfl) t (ix2 r k)
  refine h.trans ?_
  rw [normed_at]
  pointwise [k0_pay1]
  have h2 : 11 * (t.val / 11) / 11 = t.val / 11 := by omega
  blk_point [iblk, V, idx ⟨11 * (t.val / 11), Pipeline.run_start_lt t⟩, h2]

/-- The product of hidden column `l` with row `l` of the down projection; nothing at the padding. -/
def prod (c : Dev nD) (r : Fin 256) (k : Fin 2048) (l : Fin 5632) : EReal :=
  if h : l.val < 5504 then hidden (normed (rows m c) (gain m c)) (gate m c) (up m c) (ix2 r ⟨l.val, h⟩) * down m c (ix2 ⟨l.val, h⟩ k) else 0

theorem lane_lt (t : Fin cfg0.N) (x : Fin 512) : t.val % 11 * 512 + x.val < 5632 := by omega

theorem gate_blk (c : Dev nD) (t : Fin cfg0.N) (j : Fin 2048) (x : Fin 512) (hl : t.val % 11 * 512 + x.val < 5504) :
    (iblk m c 2 t : FVec Ideal S2048x512 .bf16) (ix2 j x) = gate m c (ix2 j ⟨t.val % 11 * 512 + x.val, hl⟩) := by
  have h : (iblk m c 2 t : FVec Ideal S2048x512 .bf16) (ix2 j x)
      = (V m c main_v1 : FVec Ideal S2048x5632 .bf16) (ix2 j ⟨t.val % 11 * 512 + x.val, lane_lt t x⟩) := by blk_ext [iblk, idx t]
  rw [h, gate_pad, dif_pos hl]

theorem up_blk (c : Dev nD) (t : Fin cfg0.N) (j : Fin 2048) (x : Fin 512) (hl : t.val % 11 * 512 + x.val < 5504) :
    (iblk m c 3 t : FVec Ideal S2048x512 .bf16) (ix2 j x) = up m c (ix2 j ⟨t.val % 11 * 512 + x.val, hl⟩) := by
  have h : (iblk m c 3 t : FVec Ideal S2048x512 .bf16) (ix2 j x)
      = (V m c main_v3 : FVec Ideal S2048x5632 .bf16) (ix2 j ⟨t.val % 11 * 512 + x.val, lane_lt t x⟩) := by blk_ext [iblk, idx t]
  rw [h, up_pad, dif_pos hl]

theorem down_blk (c : Dev nD) (t : Fin cfg0.N) (x : Fin 512) (k : Fin 2048) :
    (iblk m c 4 t : FVec Ideal S512x2048 .bf16) (ix2 x k) = (V m c main_v5 : FVec Ideal S5632x2048 .bf16) (ix2 ⟨t.val % 11 * 512 + x.val, lane_lt t x⟩ k) := by
  blk_ext [iblk, idx t]

/-- What column tile `t` adds at row `r`, column `k` of its row tile. -/
def term (c : Dev nD) (t : Fin cfg0.N) (y : S256x2048.Idx) : EReal :=
  ∑ x : Fin 512, prod m c ⟨t.val / 11 * 256 + (y 0).val, tile_lt t (y 0)⟩ (y 1) ⟨t.val % 11 * 512 + x.val, lane_lt t x⟩

/-- A column tile over the normalised rows adds its term. -/
theorem tile_eq (c : Dev nD) (t : Fin cfg0.N) (h : FVec Ideal S256x2048 .bf16)
    (hh : ∀ (r : Fin 256) (k : Fin 2048), h (ix2 r k) = normed (rows m c) (gain m c) (ix2 ⟨t.val / 11 * 256 + r.val, tile_lt t r⟩ k))
    (acc : FVec Ideal S256x2048 .f32) (y : S256x2048.Idx) :
    k0_pay3 (F := Ideal) h (iblk m c 2 t) (iblk m c 3 t) acc (iblk m c 4 t) y = acc y + term m c t y := by
  obtain ⟨r, k, rfl⟩ : ∃ (r : Fin 256) (k : Fin 2048), y = ix2 r k := ⟨y 0, y 1, by funext i; fin_cases i <;> rfl⟩
  refine (tile_at h _ _ acc _ r k).trans (congrArg (acc (ix2 r k) + ·) ?_)
  refine Fin.sum_fin_congr fun x => ?_
  show _ = prod m c ⟨t.val / 11 * 256 + r.val, tile_lt t r⟩ k ⟨t.val % 11 * 512 + x.val, lane_lt t x⟩
  rw [down_blk, down_pad]
  unfold prod
  split
  · rename_i hl
    rw [hidden_at]
    simp only [gate_blk m c t _ x hl, up_blk m c t _ x hl, hh]
  · exact mul_zero _

/-- A row's sums over the column tiles done so far: the output block before the last point's normalisation. -/
def acc (c : Dev nD) (n : ℕ) (h : n < cfg0.N) : FVec Ideal S256x2048 .f32 :=
  if n % 11 = 10 then
    k0_pay3 (F := Ideal) (outsAt0 m c n h).2 (iblk m c 2 ⟨n, h⟩) (iblk m c 3 ⟨n, h⟩)
      (outsAt0 m c (n - 1) (Nat.lt_of_le_of_lt (Nat.sub_le _ _) h)).1 (iblk m c 4 ⟨n, h⟩)
  else (outsAt0 m c n h).1

theorem acc_first (c : Dev nD) (t : Fin cfg0.N) (h0 : t.val % 11 = 0) (y : S256x2048.Idx) :
    acc m c t.val t.isLt y = 0 + term m c t y := by
  have h1 : ¬t.val % 11 = 10 := by omega
  have hn : ∀ (r : Fin 256) (k : Fin 2048), k0_pay1 (F := Ideal) (iblk m c 0 t) (iblk m c 1 t) (ix2 r k)
      = normed (rows m c) (gain m c) (ix2 ⟨t.val / 11 * 256 + r.val, tile_lt t r⟩ k) := fun r k => by
    rw [← held m c t r k, outsAt0_A m c t h0 h1]; frame_out
  unfold acc
  rw [if_neg h1, outsAt0_A m c t h0 h1]; frame_out
  refine (tile_eq m c t _ hn _ y).trans (congrArg (· + term m c t y) ?_)
  obtain ⟨r, k, rfl⟩ : ∃ (r : Fin 256) (k : Fin 2048), y = ix2 r k := ⟨y 0, y 1, by funext i; fin_cases i <;> rfl⟩
  exact zero_at r k

/-- Past the first column tile of a run the scratch is what the point before left. -/
theorem scratch_step (c : Dev nD) (t : Fin cfg0.N) (h0 : ¬t.val % 11 = 0) : (outsAt0 m c t.val t.isLt).2
    = (outsAt0 m c (t.val - 1) (Nat.lt_of_le_of_lt (Nat.sub_le _ _) t.isLt)).2 := by
  by_cases h1 : t.val % 11 = 10
  · rw [outsAt0_C m c t h0 h1]; rfl
  · rw [outsAt0_B m c t h0 h1]; rfl

theorem acc_next (c : Dev nD) (t : Fin cfg0.N) (h0 : ¬t.val % 11 = 0) (y : S256x2048.Idx) :
    acc m c t.val t.isLt y = acc m c (t.val - 1) (Nat.lt_of_le_of_lt (Nat.sub_le _ _) t.isLt) y + term m c t y := by
  have hp : acc m c (t.val - 1) (Nat.lt_of_le_of_lt (Nat.sub_le _ _) t.isLt)
      = (outsAt0 m c (t.val - 1) (Nat.lt_of_le_of_lt (Nat.sub_le _ _) t.isLt)).1 := by
    unfold acc
    rw [if_neg (by omega)]
  rw [hp]
  refine Eq.trans ?_ (tile_eq m c t _ (held m c t) _ y)
  unfold acc
  by_cases h1 : t.val % 11 = 10
  · rw [if_pos h1]
  · rw [if_neg h1, scratch_step m c t h0, outsAt0_B m c t h0 h1]; frame_out
    rw [read_unread_whole]

/-- At the last column tile the sums are the reference's product with the down projection. -/
theorem acc_last (c : Dev nD) (t : Fin cfg0.N) (h1 : t.val % 11 = 10) (r : Fin 256) (k : Fin 2048) :
    acc m c t.val t.isLt (ix2 r k) = ∑ l : Fin 5504,
      hidden (normed (rows m c) (gain m c)) (gate m c) (up m c) (ix2 ⟨t.val / 11 * 256 + r.val, tile_lt t r⟩ l) * down m c (ix2 l k) := by
  rw [Pipeline.eq_sum_fin_of_reset_step_apply_of_flush (acc m c) 11 (fun _ => (0 : EReal)) (term m c) (acc_first m c) (acc_next m c) t h1
    (ix2 r k)]
  rw [zero_add]
  have hsum : ∑ s : Fin 11, term m c ⟨11 * (t.val / 11) + s.val, Pipeline.run_point_lt_of_flush t h1 s⟩ (ix2 r k)
      = ∑ l : Fin 5632, prod m c ⟨t.val / 11 * 256 + r.val, tile_lt t r⟩ k l := by
    refine Fin.sum_mul_add_congr fun s x hl => ?_
    have hq : (11 * (t.val / 11) + s.val) / 11 = t.val / 11 := by omega
    have hm : (11 * (t.val / 11) + s.val) % 11 = s.val := by omega
    congr 1
    · exact Fin.ext (by show (11 * (t.val / 11) + s.val) / 11 * 256 + r.val = t.val / 11 * 256 + r.val; rw [hq])
    · exact Fin.ext (by show (11 * (t.val / 11) + s.val) % 11 * 512 + x.val = s.val * 512 + x.val; rw [hm])
  refine hsum.trans ((Fin.sum_univ_add (a := 5504) (b := 128) _).trans ?_)
  have hz : ∑ i : Fin 128, prod m c ⟨t.val / 11 * 256 + r.val, tile_lt t r⟩ k (Fin.natAdd 5504 i) = 0 :=
    Finset.sum_eq_zero fun i _ => dif_neg (by simp)
  rw [hz, add_zero]
  refine Fin.sum_fin_congr fun l => ?_
  unfold prod
  exact dif_pos l.isLt

/-- The reference's array. -/
abbrev fed (c : Dev nD) : FVec Ideal S256x2048 .f32 :=
  stepped (rows m c) (hidden (normed (rows m c) (gain m c)) (gate m c) (up m c)) (down m c)

/-- What the last column tile's point stores is the reference's array at its rows. -/
theorem point (c : Dev nD) (t : Fin cfg0.N) (h1 : t.val % 11 = 10) (r : Fin 256) (k : Fin 2048) :
    k0_pay4 (F := Ideal) (iblk m c 0 t) (acc m c t.val t.isLt) (ix2 r k) = fed m c (ix2 ⟨t.val / 11 * 256 + r.val, tile_lt t r⟩ k) := by
  unfold fed
  rw [stepped_at, ← acc_last m c t h1]
  pointwise [k0_pay4]
  blk_point [iblk, V, idx t]

theorem final (c : Dev nD) : (dats m 0 c).arrAt 5 (cfgs 0).N = fed m c := by
  refine (dats m 0 c).arrAt_eq_of_covers 5 _ (by decide +kernel) fun t hf y => ?_
  have h1 : t.val % 11 = 10 := (flush0_5 t).mp hf
  have h0 : ¬t.val % 11 = 0 := by omega
  blk_simp
  rw [after0_5]
  obtain ⟨r, k, rfl⟩ : ∃ (r : Fin 256) (k : Fin 2048), y = ix2 r k := ⟨y 0, y 1, by funext i; fin_cases i <;> rfl⟩
  have hs : (outsAt0 m c t.val t.isLt).1 = k0_pay4 (F := Ideal) (iblk m c 0 t) (acc m c t.val t.isLt) := by
    unfold acc
    rw [if_pos h1, scratch_step m c t h0, outsAt0_C m c t h0 h1]; frame_out
    rw [read_unread_whole]
  rw [hs]
  refine (point m c t h1 r k).trans ?_
  blk_ext [idx t]

end Cert.SampleFirst

end
-- ==== Proof.SampleFirstClaim.lean ====
/- The claim about the first feed-forward half-step at the sample's shapes: the kernel's run leaves the array `Cert.SampleFirst.final` names, the reference's run the same. -/
module

public import proofs.«01_k».proof.Defs
public import proofs.«01_k».proof.Proof.SampleFirst
public import proofs.«01_k».proof.Proof.Gen.Reference8Ideal.Run
public import Idealize.ShloMosaic.Lib.Claim

@[expose] public section

set_option maxRecDepth 16384

noncomputable section

open Idealize.ShloMosaic Idealize.ShloMosaic.TcCoe Idealize.SL.Sem

namespace Cert.SampleFirst

open Cert.Kernel8Ideal.Gen

set_option maxHeartbeats 4000000 in
theorem algebraic : Cert.algebraic_Kernel8Ideal_Reference8Ideal := by
  pair_intro
  · run_from Cert.Kernel8Ideal.Gen.run_main m g
    exacts [V_main_arg2 m c, V_main_arg3 m c, V_main_arg4 m c]
  · run_from Cert.Reference8Ideal.Value.run m' g'
    exact (final m c).symm

end Cert.SampleFirst

end
-- ==== Proof.SampleMerge.lean ====
/-
  The merge of the two branches at the sample's shapes: one point, storing the 256 rows of `h + (s_a * (o_a @ w_up_a) + s_b * (o_b @ w_up_b)) @ w_out`.
  The rows of a block depend on the same rows of the inputs, so every stored block is the block of the reference's array.
-/
module

public import proofs.«01_k».proof.Proof.Gen.Kernel9Ideal.Value
public import proofs.«01_k».proof.Proof.Gen.Reference9Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SampleMerge

open Cert.Kernel9Ideal Cert.Kernel9Ideal.Gen

variable (m : (ℓ : Loc nD τ sig) → Buf (Elt Ideal) ℓ)

/-- The reference's array, over the arguments. -/
abbrev merged (oa ob : FVec Ideal S256x1024 .bf16) (sa sb : FVec Ideal S256x2048 .bf16) (h : FVec Ideal S256x2048 .f32)
    (wa wb : FVec Ideal S1024x2048 .bf16) (wo : FVec Ideal S2048x2048 .bf16) : FVec Ideal S256x2048 .f32 :=
  addf h (Host.dotGeneral Cert.Reference9Ideal.dot_S256x2048_S2048x2048_S256x2048_1_0_0_1_n_n none
    (addf
      (mulf (extf .f32 sa Cert.Reference9Ideal.Gen.bitsLt_bf16_f32)
        (Host.dotGeneral Cert.Reference9Ideal.dot_S256x1024_S1024x2048_S256x2048_1_0_0_1_n_n none
          (extf .f32 oa Cert.Reference9Ideal.Gen.bitsLt_bf16_f32) (extf .f32 wa Cert.Reference9Ideal.Gen.bitsLt_bf16_f32)))
      (mulf (extf .f32 sb Cert.Reference9Ideal.Gen.bitsLt_bf16_f32)
        (Host.dotGeneral Cert.Reference9Ideal.dot_S256x1024_S1024x2048_S256x2048_1_0_0_1_n_n none
          (extf .f32 ob Cert.Reference9Ideal.Gen.bitsLt_bf16_f32) (extf .f32 wb Cert.Reference9Ideal.Gen.bitsLt_bf16_f32))))
    (extf .f32 wo Cert.Reference9Ideal.Gen.bitsLt_bf16_f32))

/-- Where each window's block sits at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

/-- What a point stores, at an index of its block, is the reference's array where that index sits. -/
theorem point (c : Dev nD) (t : Fin cfg0.N) (y) :
    k0_pay1 (iblk m c 2 t) (iblk m c 0 t) (iblk m c 5 t) (iblk m c 3 t) (iblk m c 1 t) (iblk m c 6 t) (iblk m c 4 t)
        (iblk m c 7 t) y
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 8).blk t).view.emb y) := by
  pointwise [k0_pay1, merged]
  blk_point [iblk, V, idx t]

/-- So the result array after the run is the reference's. -/
theorem final (c : Dev nD) : (dats m 0 c).arrAt 8 (cfgs 0).N
    = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]; frame_out
  exact point m c t y

end Cert.SampleMerge

end
-- ==== Proof.SampleMergeClaim.lean ====
/- The claim about the merge at the sample's shapes: the kernel's run leaves the array `Cert.SampleMerge.final` names, the reference's run the same. -/
module

public import proofs.«01_k».proof.Defs
public import proofs.«01_k».proof.Proof.SampleMerge
public import proofs.«01_k».proof.Proof.Gen.Reference9Ideal.Run
public import Idealize.ShloMosaic.Lib.Claim

@[expose] public section

set_option maxRecDepth 16384

noncomputable section

open Idealize.ShloMosaic Idealize.ShloMosaic.TcCoe Idealize.SL.Sem

namespace Cert.SampleMerge

theorem algebraic : Cert.algebraic_Kernel9Ideal_Reference9Ideal := by
  pair_intro
  · run_from Cert.Kernel9Ideal.Gen.run_main m g
  · run_from Cert.Reference9Ideal.Value.run m' g'
    exact (final m c).symm

end Cert.SampleMerge

end
-- ==== Proof.lean ====
/- The certificate: the frames, the rewrites kept (none were made), and the value claims, each from its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.FfnClaim
public import proofs.«01_k».proof.Proof.FirstClaim
public import proofs.«01_k».proof.Proof.ProjectClaim
public import proofs.«01_k».proof.Proof.MergeClaim
public import proofs.«01_k».proof.Proof.SampleProjectClaim
public import proofs.«01_k».proof.Proof.SampleFfnClaim
public import proofs.«01_k».proof.Proof.SampleFirstClaim
public import proofs.«01_k».proof.Proof.SampleMergeClaim
public import Idealize.ShloMosaic.Adequacy
public import Idealize.ShloMosaic.Init

@[expose] public section

noncomputable section

namespace Cert.Proof

open Idealize.ShloMosaic Idealize.SL.Sem

theorem frame_r : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono
    (fun r h => ⟨fun c => (h c).2.2.2.2.2.2.2, sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono
    (fun r h => ⟨fun c => (h c).2.2.2.2.2.2.2, sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_r8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_r9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  trivial, trivial, Cert.Ffn.algebraic, trivial, Cert.Project.algebraic, trivial, Cert.Merge.algebraic,
  trivial, Cert.First.algebraic, trivial, Cert.SampleProject.algebraic,
  trivial, Cert.SampleFfn.algebraic, trivial, Cert.SampleFirst.algebraic, trivial, Cert.SampleMerge.algebraic⟩

end Cert.Proof

end
